-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_action_in_every_row [hPre_some_action_in_every_row : Cert.Pre_some_action_in_every_row.Facts] (m : (ℓ : Loc Cert.KernelIdeal.nD Cert.KernelIdeal.τ Cert.KernelIdeal.sig) → Buf (Elt Ideal) ℓ) : Prop :=
  ∀ c : Dev Cert.KernelIdeal.nD,
    (Cert.Pre_some_action_in_every_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_action_in_every_row [hPre_some_action_in_every_row : Cert.Pre_some_action_in_every_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_action_in_every_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_some_action_in_every_row [hKernelIdeal : Cert.KernelIdeal.Facts] [hPre_some_action_in_every_row : Cert.Pre_some_action_in_every_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_action_in_every_row m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_some_action_in_every_row [hReferenceIdeal : Cert.ReferenceIdeal.Facts] [hPre_some_action_in_every_row : Cert.Pre_some_action_in_every_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_action_in_every_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "largest" .f32 0x7F7FFFFF#32 ⊤

def algebraic_KernelIdeal_ReferenceIdeal_pre_some_action_in_every_row [hKernelIdeal : Cert.KernelIdeal.Facts] [hReferenceIdeal : Cert.ReferenceIdeal.Facts] [hPre_some_action_in_every_row : Cert.Pre_some_action_in_every_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_action_in_every_row m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_some_action_in_every_row : Cert.Pre_some_action_in_every_row.Facts),
    quiescent_Kernel (hKernel := hKernel)
    ∧ quiescent_KernelIdeal (hKernelIdeal := hKernelIdeal)
    ∧ quiescent_KernelIdeal_pre_some_action_in_every_row (hKernelIdeal := hKernelIdeal) (hPre_some_action_in_every_row := hPre_some_action_in_every_row)
    ∧ quiescent_ReferenceIdeal (hReferenceIdeal := hReferenceIdeal)
    ∧ quiescent_ReferenceIdeal_pre_some_action_in_every_row (hReferenceIdeal := hReferenceIdeal) (hPre_some_action_in_every_row := hPre_some_action_in_every_row)
    ∧ preserves_Kernel_KernelIdeal
    ∧ algebraic_KernelIdeal_ReferenceIdeal_pre_some_action_in_every_row (hKernelIdeal := hKernelIdeal) (hReferenceIdeal := hReferenceIdeal) (hPre_some_action_in_every_row := hPre_some_action_in_every_row)
-- ==== Pre_some_action_in_every_row.lean ====
abbrev S32x1000000 : Shape := ⟨2, ![32, 1000000]⟩
abbrev S_ : Shape := ⟨0, ![]⟩
abbrev S32 : Shape := ⟨1, ![32]⟩

class Facts : Prop where
  bcast_S_S32x1000000 : S_.BroadcastsInDim S32x1000000 (![] : Fin 0 → Fin S32x1000000.rank)
  reducesTo_S32x1000000_S32_d1 : S32x1000000.ReducesTo [1] S32
  h_S_ : 0 < S_.numel
  bcast_S_S32 : S_.BroadcastsInDim S32 (![] : Fin 0 → Fin S32.rank)

variable [Facts]

def fn {F : FTy → Type} [FloatOps F] (main_arg0 : FVec F S32x1000000 .f32) (main_arg1 : IVec S32x1000000 1) : IVec S32 1 :=
  let main_cst : FVec F S_ .f32 := constant S_ .f32 0xFF800000#32
  let main_v0 : FVec F S32x1000000 .f32 := broadcastInDim S32x1000000 ![] bcast_S_S32x1000000 main_cst
  let main_v1 : FVec F S32x1000000 .f32 := select main_arg1 main_arg0 main_v0
  let main_cst_0 : FVec F S_ .f32 := constant S_ .f32 0xFF800000#32
  let main_v2 : FVec F S32 .f32 := (fun x v => Host.reduce FloatOps.maximumf x v reducesTo_S32x1000000_S32_d1 h_S_) main_v1 main_cst_0
  let main_cst_1 : FVec F S_ .f32 := constant S_ .f32 0xFF800000#32
  let main_v3 : FVec F S32 .f32 := broadcastInDim S32 ![] bcast_S_S32 main_cst_1
  let main_v4 : IVec S32 1 := cmpf .ogt main_v2 main_v3
  let main_cst_2 : FVec F S_ .f32 := constant S_ .f32 0x7F800000#32
  let main_v5 : FVec F S32 .f32 := broadcastInDim S32 ![] bcast_S_S32 main_cst_2
  let main_v6 : IVec S32 1 := cmpf .olt main_v2 main_v5
  let main_v7 : IVec S32 1 := andi main_v4 main_v6
  main_v7
-- ==== Kernel.lean ====
abbrev S32x1000000 : Shape := ⟨2, ![32, 1000000]⟩
abbrev S32x1 : Shape := ⟨2, ![32, 1]⟩
abbrev S32x8192 : Shape := ⟨2, ![32, 8192]⟩
abbrev S32 : Shape := ⟨1, ![32]⟩

abbrev nBuf : Space → Nat
  | .hbm => 9
  | .vmem => 16
  | .smem => 0
  | _ => 0

abbrev bufTy : (tb : Table) → Fin (tcTables nBuf tb) → BufTy
  | .hbm, ⟨0, _⟩ => ⟨S32x1000000, .f32⟩
  | .hbm, ⟨1, _⟩ => ⟨S32x1000000, .i1⟩
  | .hbm, ⟨2, _⟩ => ⟨S32x1000000, .i32⟩
  | .hbm, ⟨3, _⟩ => ⟨S32x1, .f32⟩
  | .hbm, ⟨4, _⟩ => ⟨S32x1, .f32⟩
  | .hbm, ⟨5, _⟩ => ⟨S32x1000000, .i32⟩
  | .hbm, ⟨6, _⟩ => ⟨S32x1000000, .f32⟩
  | .hbm, ⟨7, _⟩ => ⟨S32x1, .i32⟩
  | .hbm, ⟨8, _⟩ => ⟨S32, .i32⟩
  | .local _ .vmem, ⟨0, _⟩ => ⟨S32x8192, .f32⟩
  | .local _ .vmem, ⟨1, _⟩ => ⟨S32x8192, .f32⟩
  | .local _ .vmem, ⟨2, _⟩ => ⟨S32x8192, .i32⟩
  | .local _ .vmem, ⟨3, _⟩ => ⟨S32x8192, .i32⟩
  | .local _ .vmem, ⟨4, _⟩ => ⟨S32x1, .f32⟩
  | .local _ .vmem, ⟨5, _⟩ => ⟨S32x1, .f32⟩
  | .local _ .vmem, ⟨6, _⟩ => ⟨S32x8192, .f32⟩
  | .local _ .vmem, ⟨7, _⟩ => ⟨S32x8192, .f32⟩
  | .local _ .vmem, ⟨8, _⟩ => ⟨S32x8192, .i32⟩
  | .local _ .vmem, ⟨9, _⟩ => ⟨S32x8192, .i32⟩
  | .local _ .vmem, ⟨10, _⟩ => ⟨S32x1, .f32⟩
  | .local _ .vmem, ⟨11, _⟩ => ⟨S32x1, .f32⟩
  | .local _ .vmem, ⟨12, _⟩ => ⟨S32x8192, .f32⟩
  | .local _ .vmem, ⟨13, _⟩ => ⟨S32x8192, .f32⟩
  | .local _ .vmem, ⟨14, _⟩ => ⟨S32x1, .i32⟩
  | .local _ .vmem, ⟨15, _⟩ => ⟨S32x1, .f32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![123], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x8192 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S32x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S32x1 .i32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== KernelIdeal.lean ====
variable {F : FTy → Type} [FloatOps F] [Named F]
def κ : String → Option EReal := fun
  | "largest" => some ⊤
  | _ => none
-- ==== ReferenceIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩
abbrev S1 : Shape := ⟨1, ![1]⟩
abbrev S2 : Shape := ⟨1, ![2]⟩
abbrev S1x1 : Shape := ⟨2, ![1, 1]⟩

abbrev nBuf : Space → Nat
  | .hbm => 322
  | .vmem => 0
  | .smem => 0
  | _ => 0

abbrev hbmTy0_0 (i : Nat) : BufTy := match i % 128 with
  | 0 => ⟨S32x1000000, .f32⟩
  | 1 => ⟨S32x1000000, .i1⟩
  | 2 => ⟨S_, .f32⟩
  | 3 => ⟨S32x1000000, .f32⟩
  | 4 => ⟨S32x1000000, .f32⟩
  | 5 => ⟨S_, .f32⟩
  | 6 => ⟨S32, .f32⟩
  | 7 => ⟨S32x1, .f32⟩
  | 8 => ⟨S32x1, .f32⟩
  | 9 => ⟨S_, .f32⟩
  | 10 => ⟨S32x1, .f32⟩
  | 11 => ⟨S32x1, .i1⟩
  | 12 => ⟨S_, .f32⟩
  | 13 => ⟨S32x1, .f32⟩
  | 14 => ⟨S32x1, .f32⟩
  | 15 => ⟨S32x1000000, .f32⟩
  | 16 => ⟨S32x1000000, .f32⟩
  | 17 => ⟨S32x1000000, .f32⟩
  | 18 => ⟨S_, .f32⟩
  | 19 => ⟨S32, .f32⟩
  | 20 => ⟨S32x1, .f32⟩
  | 21 => ⟨S32x1, .f32⟩
  | 22 => ⟨S32x1, .f32⟩
  | 23 => ⟨S32x1000000, .f32⟩
  | 24 => ⟨S32x1000000, .f32⟩
  | 25 => ⟨S_, .f32⟩
  | 26 => ⟨S32, .f32⟩
  | 27 => ⟨S_, .f32⟩
  | 28 => ⟨S32, .f32⟩
  | 29 => ⟨S32, .f32⟩
  | 30 => ⟨S32x1, .f32⟩
  | 31 => ⟨S32x1000000, .f32⟩
  | 32 => ⟨S32x1000000, .f32⟩
  | 33 => ⟨S32x1000000, .f32⟩
  | 34 => ⟨S_, .f32⟩
  | 35 => ⟨S32, .f32⟩
  | 36 => ⟨S32x1, .f32⟩
  | 37 => ⟨S32x1000000, .f32⟩
  | 38 => ⟨S32x1000000, .f32⟩
  | 39 => ⟨S_, .i32⟩
  | 40 => ⟨S_, .i32⟩
  | 41 => ⟨S_, .i32⟩
  | 42 => ⟨S_, .i32⟩
  | 43 => ⟨S1, .i32⟩
  | 44 => ⟨S_, .i32⟩
  | 45 => ⟨S_, .i32⟩
  | 46 => ⟨S_, .i32⟩
  | 47 => ⟨S1, .i32⟩
  | 48 => ⟨S2, .i32⟩
  | 49 => ⟨S_, .f32⟩
  | 50 => ⟨S_, .f32⟩
  | 51 => ⟨S_, .f32⟩
  | 52 => ⟨S1x1, .f32⟩
  | 53 => ⟨S1x1, .f32⟩
  | 54 => ⟨S1, .i32⟩
  | 55 => ⟨S_, .i32⟩
  | 56 => ⟨S1, .i32⟩
  | 57 => ⟨S_, .i32⟩
  | 58 => ⟨S32x1000000, .i64⟩
  | 59 => ⟨S32x1000000, .i64⟩
  | 60 => ⟨S_, .i64⟩
  | 61 => ⟨S32x1000000, .i64⟩
  | 62 => ⟨S32x1000000, .i64⟩
  | 63 => ⟨S_, .i64⟩
  | 64 => ⟨S32x1000000, .i64⟩
  | 65 => ⟨S32x1000000, .i64⟩
  | 66 => ⟨S32x1000000, .i64⟩
  | 67 => ⟨S_, .i64⟩
  | 68 => ⟨S32x1000000, .i64⟩
  | 69 => ⟨S32x1000000, .i64⟩
  | 70 => ⟨S32x1000000, .i32⟩
  | 71 => ⟨S32x1000000, .i32⟩
  | 72 => ⟨S_, .i32⟩
  | 73 => ⟨S_, .i32⟩
  | 74 => ⟨S_, .i32⟩
  | 75 => ⟨S32x1000000, .i32⟩
  | 76 => ⟨S32x1000000, .i32⟩
  | 77 => ⟨S32x1000000, .i32⟩
  | 78 => ⟨S32x1000000, .i32⟩
  | 79 => ⟨S32x1000000, .i32⟩
  | 80 => ⟨S_, .i32⟩
  | 81 => ⟨S32x1000000, .i32⟩
  | 82 => ⟨S32x1000000, .i32⟩
  | 83 => ⟨S_, .i32⟩
  | 84 => ⟨S32x1000000, .i32⟩
  | 85 => ⟨S32x1000000, .i32⟩
  | 86 => ⟨S32x1000000, .i32⟩
  | 87 => ⟨S32x1000000, .i32⟩
  | 88 => ⟨S32x1000000, .i32⟩
  | 89 => ⟨S_, .i32⟩
  | 90 => ⟨S32x1000000, .i32⟩
  | 91 => ⟨S32x1000000, .i32⟩
  | 92 => ⟨S_, .i32⟩
  | 93 => ⟨S32x1000000, .i32⟩
  | 94 => ⟨S32x1000000, .i32⟩
  | 95 => ⟨S32x1000000, .i32⟩
  | 96 => ⟨S32x1000000, .i32⟩
  | 97 => ⟨S32x1000000, .i32⟩
  | 98 => ⟨S_, .i32⟩
  | 99 => ⟨S32x1000000, .i32⟩
  | 100 => ⟨S32x1000000, .i32⟩
  | 101 => ⟨S_, .i32⟩
  | 102 => ⟨S32x1000000, .i32⟩
  | 103 => ⟨S32x1000000, .i32⟩
  | 104 => ⟨S32x1000000, .i32⟩
  | 105 => ⟨S32x1000000, .i32⟩
  | 106 => ⟨S32x1000000, .i32⟩
  | 107 => ⟨S_, .i32⟩
  | 108 => ⟨S32x1000000, .i32⟩
  | 109 => ⟨S32x1000000, .i32⟩
  | 110 => ⟨S_, .i32⟩
  | 111 => ⟨S32x1000000, .i32⟩
  | 112 => ⟨S32x1000000, .i32⟩
  | 113 => ⟨S32x1000000, .i32⟩
  | 114 => ⟨S32x1000000, .i32⟩
  | 115 => ⟨S32x1000000, .i32⟩
  | 116 => ⟨S32x1000000, .i32⟩
  | 117 => ⟨S32x1000000, .i32⟩
  | 118 => ⟨S32x1000000, .i32⟩
  | 119 => ⟨S_, .i32⟩
  | 120 => ⟨S32x1000000, .i32⟩
  | 121 => ⟨S32x1000000, .i32⟩
  | 122 => ⟨S32x1000000, .i32⟩
  | 123 => ⟨S_, .i32⟩
  | 124 => ⟨S32x1000000, .i32⟩
  | 125 => ⟨S32x1000000, .i32⟩
  | 126 => ⟨S_, .i32⟩
  | 127 => ⟨S32x1000000, .i32⟩
  | _ => ⟨S32x1000000, .f32⟩

abbrev hbmTy0_1 (i : Nat) : BufTy := match i % 128 with
  | 0 => ⟨S32x1000000, .i32⟩
  | 1 => ⟨S32x1000000, .i32⟩
  | 2 => ⟨S32x1000000, .i32⟩
  | 3 => ⟨S32x1000000, .i32⟩
  | 4 => ⟨S_, .i32⟩
  | 5 => ⟨S32x1000000, .i32⟩
  | 6 => ⟨S32x1000000, .i32⟩
  | 7 => ⟨S_, .i32⟩
  | 8 => ⟨S32x1000000, .i32⟩
  | 9 => ⟨S32x1000000, .i32⟩
  | 10 => ⟨S32x1000000, .i32⟩
  | 11 => ⟨S32x1000000, .i32⟩
  | 12 => ⟨S32x1000000, .i32⟩
  | 13 => ⟨S_, .i32⟩
  | 14 => ⟨S32x1000000, .i32⟩
  | 15 => ⟨S32x1000000, .i32⟩
  | 16 => ⟨S_, .i32⟩
  | 17 => ⟨S32x1000000, .i32⟩
  | 18 => ⟨S32x1000000, .i32⟩
  | 19 => ⟨S32x1000000, .i32⟩
  | 20 => ⟨S32x1000000, .i32⟩
  | 21 => ⟨S32x1000000, .i32⟩
  | 22 => ⟨S_, .i32⟩
  | 23 => ⟨S32x1000000, .i32⟩
  | 24 => ⟨S32x1000000, .i32⟩
  | 25 => ⟨S_, .i32⟩
  | 26 => ⟨S32x1000000, .i32⟩
  | 27 => ⟨S32x1000000, .i32⟩
  | 28 => ⟨S32x1000000, .i32⟩
  | 29 => ⟨S32x1000000, .i32⟩
  | 30 => ⟨S32x1000000, .i32⟩
  | 31 => ⟨S32x1000000, .i32⟩
  | 32 => ⟨S32x1000000, .i32⟩
  | 33 => ⟨S32x1000000, .i32⟩
  | 34 => ⟨S_, .i32⟩
  | 35 => ⟨S32x1000000, .i32⟩
  | 36 => ⟨S32x1000000, .i32⟩
  | 37 => ⟨S32x1000000, .i32⟩
  | 38 => ⟨S_, .i32⟩
  | 39 => ⟨S32x1000000, .i32⟩
  | 40 => ⟨S32x1000000, .i32⟩
  | 41 => ⟨S_, .i32⟩
  | 42 => ⟨S32x1000000, .i32⟩
  | 43 => ⟨S32x1000000, .i32⟩
  | 44 => ⟨S32x1000000, .i32⟩
  | 45 => ⟨S32x1000000, .i32⟩
  | 46 => ⟨S32x1000000, .i32⟩
  | 47 => ⟨S_, .i32⟩
  | 48 => ⟨S32x1000000, .i32⟩
  | 49 => ⟨S32x1000000, .i32⟩
  | 50 => ⟨S_, .i32⟩
  | 51 => ⟨S32x1000000, .i32⟩
  | 52 => ⟨S32x1000000, .i32⟩
  | 53 => ⟨S32x1000000, .i32⟩
  | 54 => ⟨S32x1000000, .i32⟩
  | 55 => ⟨S32x1000000, .i32⟩
  | 56 => ⟨S_, .i32⟩
  | 57 => ⟨S32x1000000, .i32⟩
  | 58 => ⟨S32x1000000, .i32⟩
  | 59 => ⟨S_, .i32⟩
  | 60 => ⟨S32x1000000, .i32⟩
  | 61 => ⟨S32x1000000, .i32⟩
  | 62 => ⟨S32x1000000, .i32⟩
  | 63 => ⟨S32x1000000, .i32⟩
  | 64 => ⟨S32x1000000, .i32⟩
  | 65 => ⟨S_, .i32⟩
  | 66 => ⟨S32x1000000, .i32⟩
  | 67 => ⟨S32x1000000, .i32⟩
  | 68 => ⟨S_, .i32⟩
  | 69 => ⟨S32x1000000, .i32⟩
  | 70 => ⟨S32x1000000, .i32⟩
  | 71 => ⟨S32x1000000, .i32⟩
  | 72 => ⟨S32x1000000, .i32⟩
  | 73 => ⟨S32x1000000, .i32⟩
  | 74 => ⟨S32x1000000, .i32⟩
  | 75 => ⟨S32x1000000, .i32⟩
  | 76 => ⟨S32x1000000, .i32⟩
  | 77 => ⟨S_, .i32⟩
  | 78 => ⟨S32x1000000, .i32⟩
  | 79 => ⟨S32x1000000, .i32⟩
  | 80 => ⟨S32x1000000, .i32⟩
  | 81 => ⟨S_, .i32⟩
  | 82 => ⟨S32x1000000, .i32⟩
  | 83 => ⟨S32x1000000, .i32⟩
  | 84 => ⟨S_, .i32⟩
  | 85 => ⟨S32x1000000, .i32⟩
  | 86 => ⟨S32x1000000, .i32⟩
  | 87 => ⟨S32x1000000, .i32⟩
  | 88 => ⟨S32x1000000, .i32⟩
  | 89 => ⟨S32x1000000, .i32⟩
  | 90 => ⟨S_, .i32⟩
  | 91 => ⟨S32x1000000, .i32⟩
  | 92 => ⟨S32x1000000, .i32⟩
  | 93 => ⟨S_, .i32⟩
  | 94 => ⟨S32x1000000, .i32⟩
  | 95 => ⟨S32x1000000, .i32⟩
  | 96 => ⟨S32x1000000, .i32⟩
  | 97 => ⟨S32x1000000, .i32⟩
  | 98 => ⟨S32x1000000, .i32⟩
  | 99 => ⟨S_, .i32⟩
  | 100 => ⟨S32x1000000, .i32⟩
  | 101 => ⟨S32x1000000, .i32⟩
  | 102 => ⟨S_, .i32⟩
  | 103 => ⟨S32x1000000, .i32⟩
  | 104 => ⟨S32x1000000, .i32⟩
  | 105 => ⟨S32x1000000, .i32⟩
  | 106 => ⟨S32x1000000, .i32⟩
  | 107 => ⟨S32x1000000, .i32⟩
  | 108 => ⟨S_, .i32⟩
  | 109 => ⟨S32x1000000, .i32⟩
  | 110 => ⟨S32x1000000, .i32⟩
  | 111 => ⟨S_, .i32⟩
  | 112 => ⟨S32x1000000, .i32⟩
  | 113 => ⟨S32x1000000, .i32⟩
  | 114 => ⟨S32x1000000, .i32⟩
  | 115 => ⟨S32x1000000, .i32⟩
  | 116 => ⟨S32x1000000, .i32⟩
  | 117 => ⟨S32x1000000, .i32⟩
  | 118 => ⟨S32x1000000, .i32⟩
  | 119 => ⟨S32x1000000, .i32⟩
  | 120 => ⟨S_, .i32⟩
  | 121 => ⟨S32x1000000, .i32⟩
  | 122 => ⟨S32x1000000, .i32⟩
  | 123 => ⟨S32x1000000, .i32⟩
  | 124 => ⟨S_, .i32⟩
  | 125 => ⟨S32x1000000, .i32⟩
  | 126 => ⟨S32x1000000, .i32⟩
  | 127 => ⟨S_, .i32⟩
  | _ => ⟨S32x1000000, .f32⟩

abbrev hbmTy0_2 (i : Nat) : BufTy := match i % 128 with
  | 0 => ⟨S32x1000000, .i32⟩
  | 1 => ⟨S32x1000000, .i32⟩
  | 2 => ⟨S32x1000000, .i32⟩
  | 3 => ⟨S32x1000000, .i32⟩
  | 4 => ⟨S32x1000000, .i32⟩
  | 5 => ⟨S_, .i32⟩
  | 6 => ⟨S32x1000000, .i32⟩
  | 7 => ⟨S32x1000000, .i32⟩
  | 8 => ⟨S_, .i32⟩
  | 9 => ⟨S32x1000000, .i32⟩
  | 10 => ⟨S32x1000000, .i32⟩
  | 11 => ⟨S32x1000000, .i32⟩
  | 12 => ⟨S32x1000000, .i32⟩
  | 13 => ⟨S32x1000000, .i32⟩
  | 14 => ⟨S_, .i32⟩
  | 15 => ⟨S32x1000000, .i32⟩
  | 16 => ⟨S32x1000000, .i32⟩
  | 17 => ⟨S_, .i32⟩
  | 18 => ⟨S32x1000000, .i32⟩
  | 19 => ⟨S32x1000000, .i32⟩
  | 20 => ⟨S32x1000000, .i32⟩
  | 21 => ⟨S32x1000000, .i32⟩
  | 22 => ⟨S32x1000000, .i32⟩
  | 23 => ⟨S_, .i32⟩
  | 24 => ⟨S32x1000000, .i32⟩
  | 25 => ⟨S32x1000000, .i32⟩
  | 26 => ⟨S_, .i32⟩
  | 27 => ⟨S32x1000000, .i32⟩
  | 28 => ⟨S32x1000000, .i32⟩
  | 29 => ⟨S32x1000000, .i32⟩
  | 30 => ⟨S32x1000000, .i32⟩
  | 31 => ⟨S32x1000000, .i32⟩
  | 32 => ⟨S32x1000000, .i32⟩
  | 33 => ⟨S32x1000000, .i32⟩
  | 34 => ⟨S32x1000000, .i32⟩
  | 35 => ⟨S_, .i32⟩
  | 36 => ⟨S32x1000000, .i32⟩
  | 37 => ⟨S32x1000000, .i32⟩
  | 38 => ⟨S32x1000000, .i32⟩
  | 39 => ⟨S_, .i32⟩
  | 40 => ⟨S32x1000000, .i32⟩
  | 41 => ⟨S32x1000000, .i32⟩
  | 42 => ⟨S_, .i32⟩
  | 43 => ⟨S32x1000000, .i32⟩
  | 44 => ⟨S32x1000000, .i32⟩
  | 45 => ⟨S32x1000000, .f32⟩
  | 46 => ⟨S_, .f32⟩
  | 47 => ⟨S32x1000000, .f32⟩
  | 48 => ⟨S32x1000000, .f32⟩
  | 49 => ⟨S1x1, .f32⟩
  | 50 => ⟨S32x1000000, .f32⟩
  | 51 => ⟨S32x1000000, .f32⟩
  | 52 => ⟨S32x1000000, .f32⟩
  | 53 => ⟨S32x1000000, .f32⟩
  | 54 => ⟨S32x1000000, .f32⟩
  | 55 => ⟨S32x1000000, .f32⟩
  | 56 => ⟨S32x1000000, .f32⟩
  | 57 => ⟨S32x1000000, .f32⟩
  | 58 => ⟨S32x1000000, .f32⟩
  | 59 => ⟨S32x1000000, .f32⟩
  | 60 => ⟨S32x1000000, .f32⟩
  | 61 => ⟨S32x1000000, .i32⟩
  | 62 => ⟨S_, .f32⟩
  | 63 => ⟨S_, .i32⟩
  | 64 => ⟨S32, .f32⟩
  | 65 => ⟨S32, .i32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_call0_v0 : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_cst_5 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call2_cst : Ref sig .tc := ⟨.hbm, 49, rfl⟩
abbrev main_call2_cst_0 : Ref sig .tc := ⟨.hbm, 50, rfl⟩
abbrev main_call2_call0_v0 : Ref sig .tc := ⟨.hbm, 51, rfl⟩
abbrev main_call2_call0_v1 : Ref sig .tc := ⟨.hbm, 52, rfl⟩
abbrev main_call2_call0_v2 : Ref sig .tc := ⟨.hbm, 53, rfl⟩
abbrev main_call2_call0_v3 : Ref sig .tc := ⟨.hbm, 54, rfl⟩
abbrev main_call2_call0_v4 : Ref sig .tc := ⟨.hbm, 55, rfl⟩
abbrev main_call2_call0_v5 : Ref sig .tc := ⟨.hbm, 56, rfl⟩
abbrev main_call2_call0_v6 : Ref sig .tc := ⟨.hbm, 57, rfl⟩
abbrev main_call2_call0_v7 : Ref sig .tc := ⟨.hbm, 58, rfl⟩
abbrev main_call2_call0_v8 : Ref sig .tc := ⟨.hbm, 59, rfl⟩
abbrev main_call2_call0_c : Ref sig .tc := ⟨.hbm, 60, rfl⟩
abbrev main_call2_call0_v9 : Ref sig .tc := ⟨.hbm, 61, rfl⟩
abbrev main_call2_call0_v10 : Ref sig .tc := ⟨.hbm, 62, rfl⟩
abbrev main_call2_call0_c_0 : Ref sig .tc := ⟨.hbm, 63, rfl⟩
abbrev main_call2_call0_v11 : Ref sig .tc := ⟨.hbm, 64, rfl⟩
abbrev main_call2_call0_v12 : Ref sig .tc := ⟨.hbm, 65, rfl⟩
abbrev main_call2_call0_v13 : Ref sig .tc := ⟨.hbm, 66, rfl⟩
abbrev main_call2_call0_c_1 : Ref sig .tc := ⟨.hbm, 67, rfl⟩
abbrev main_call2_call0_v14 : Ref sig .tc := ⟨.hbm, 68, rfl⟩
abbrev main_call2_call0_v15 : Ref sig .tc := ⟨.hbm, 69, rfl⟩
abbrev main_call2_call0_v16 : Ref sig .tc := ⟨.hbm, 70, rfl⟩
abbrev main_call2_call0_v17 : Ref sig .tc := ⟨.hbm, 71, rfl⟩
abbrev main_call2_call0_call0_v0 : Ref sig .tc := ⟨.hbm, 72, rfl⟩
abbrev main_call2_call0_call0_c : Ref sig .tc := ⟨.hbm, 73, rfl⟩
abbrev main_call2_call0_call0_v1 : Ref sig .tc := ⟨.hbm, 74, rfl⟩
abbrev main_call2_call0_call0_v2 : Ref sig .tc := ⟨.hbm, 75, rfl⟩
abbrev main_call2_call0_call0_v3 : Ref sig .tc := ⟨.hbm, 76, rfl⟩
abbrev main_call2_call0_call0_v4 : Ref sig .tc := ⟨.hbm, 77, rfl⟩
abbrev main_call2_call0_call0_v5 : Ref sig .tc := ⟨.hbm, 78, rfl⟩
abbrev main_call2_call0_call0_v6 : Ref sig .tc := ⟨.hbm, 79, rfl⟩
abbrev main_call2_call0_call0_c_0 : Ref sig .tc := ⟨.hbm, 80, rfl⟩
abbrev main_call2_call0_call0_v7 : Ref sig .tc := ⟨.hbm, 81, rfl⟩
abbrev main_call2_call0_call0_v8 : Ref sig .tc := ⟨.hbm, 82, rfl⟩
abbrev main_call2_call0_call0_c_1 : Ref sig .tc := ⟨.hbm, 83, rfl⟩
abbrev main_call2_call0_call0_v9 : Ref sig .tc := ⟨.hbm, 84, rfl⟩
abbrev main_call2_call0_call0_v10 : Ref sig .tc := ⟨.hbm, 85, rfl⟩
abbrev main_call2_call0_call0_v11 : Ref sig .tc := ⟨.hbm, 86, rfl⟩
abbrev main_call2_call0_call0_v12 : Ref sig .tc := ⟨.hbm, 87, rfl⟩
abbrev main_call2_call0_call0_v13 : Ref sig .tc := ⟨.hbm, 88, rfl⟩
abbrev main_call2_call0_call0_c_2 : Ref sig .tc := ⟨.hbm, 89, rfl⟩
abbrev main_call2_call0_call0_v14 : Ref sig .tc := ⟨.hbm, 90, rfl⟩
abbrev main_call2_call0_call0_v15 : Ref sig .tc := ⟨.hbm, 91, rfl⟩
abbrev main_call2_call0_call0_c_3 : Ref sig .tc := ⟨.hbm, 92, rfl⟩
abbrev main_call2_call0_call0_v16 : Ref sig .tc := ⟨.hbm, 93, rfl⟩
abbrev main_call2_call0_call0_v17 : Ref sig .tc := ⟨.hbm, 94, rfl⟩
abbrev main_call2_call0_call0_v18 : Ref sig .tc := ⟨.hbm, 95, rfl⟩
abbrev main_call2_call0_call0_v19 : Ref sig .tc := ⟨.hbm, 96, rfl⟩
abbrev main_call2_call0_call0_v20 : Ref sig .tc := ⟨.hbm, 97, rfl⟩
abbrev main_call2_call0_call0_c_4 : Ref sig .tc := ⟨.hbm, 98, rfl⟩
abbrev main_call2_call0_call0_v21 : Ref sig .tc := ⟨.hbm, 99, rfl⟩
abbrev main_call2_call0_call0_v22 : Ref sig .tc := ⟨.hbm, 100, rfl⟩
abbrev main_call2_call0_call0_c_5 : Ref sig .tc := ⟨.hbm, 101, rfl⟩
abbrev main_call2_call0_call0_v23 : Ref sig .tc := ⟨.hbm, 102, rfl⟩
abbrev main_call2_call0_call0_v24 : Ref sig .tc := ⟨.hbm, 103, rfl⟩
abbrev main_call2_call0_call0_v25 : Ref sig .tc := ⟨.hbm, 104, rfl⟩
abbrev main_call2_call0_call0_v26 : Ref sig .tc := ⟨.hbm, 105, rfl⟩
abbrev main_call2_call0_call0_v27 : Ref sig .tc := ⟨.hbm, 106, rfl⟩
abbrev main_call2_call0_call0_c_6 : Ref sig .tc := ⟨.hbm, 107, rfl⟩
abbrev main_call2_call0_call0_v28 : Ref sig .tc := ⟨.hbm, 108, rfl⟩
abbrev main_call2_call0_call0_v29 : Ref sig .tc := ⟨.hbm, 109, rfl⟩
abbrev main_call2_call0_call0_c_7 : Ref sig .tc := ⟨.hbm, 110, rfl⟩
abbrev main_call2_call0_call0_v30 : Ref sig .tc := ⟨.hbm, 111, rfl⟩
abbrev main_call2_call0_call0_v31 : Ref sig .tc := ⟨.hbm, 112, rfl⟩
abbrev main_call2_call0_call0_v32 : Ref sig .tc := ⟨.hbm, 113, rfl⟩
abbrev main_call2_call0_call0_v33 : Ref sig .tc := ⟨.hbm, 114, rfl⟩
abbrev main_call2_call0_call0_v34 : Ref sig .tc := ⟨.hbm, 115, rfl⟩
abbrev main_call2_call0_call0_v35 : Ref sig .tc := ⟨.hbm, 116, rfl⟩
abbrev main_call2_call0_call0_v36 : Ref sig .tc := ⟨.hbm, 117, rfl⟩
abbrev main_call2_call0_call0_v37 : Ref sig .tc := ⟨.hbm, 118, rfl⟩
abbrev main_call2_call0_call0_c_8 : Ref sig .tc := ⟨.hbm, 119, rfl⟩
abbrev main_call2_call0_call0_v38 : Ref sig .tc := ⟨.hbm, 120, rfl⟩
abbrev main_call2_call0_call0_v39 : Ref sig .tc := ⟨.hbm, 121, rfl⟩
abbrev main_call2_call0_call0_v40 : Ref sig .tc := ⟨.hbm, 122, rfl⟩
abbrev main_call2_call0_call0_c_9 : Ref sig .tc := ⟨.hbm, 123, rfl⟩
abbrev main_call2_call0_call0_v41 : Ref sig .tc := ⟨.hbm, 124, rfl⟩
abbrev main_call2_call0_call0_v42 : Ref sig .tc := ⟨.hbm, 125, rfl⟩
abbrev main_call2_call0_call0_c_10 : Ref sig .tc := ⟨.hbm, 126, rfl⟩
abbrev main_call2_call0_call0_v43 : Ref sig .tc := ⟨.hbm, 127, rfl⟩
abbrev main_call2_call0_call0_v44 : Ref sig .tc := ⟨.hbm, 128, rfl⟩
abbrev main_call2_call0_call0_v45 : Ref sig .tc := ⟨.hbm, 129, rfl⟩
abbrev main_call2_call0_call0_v46 : Ref sig .tc := ⟨.hbm, 130, rfl⟩
abbrev main_call2_call0_call0_v47 : Ref sig .tc := ⟨.hbm, 131, rfl⟩
abbrev main_call2_call0_call0_c_11 : Ref sig .tc := ⟨.hbm, 132, rfl⟩
abbrev main_call2_call0_call0_v48 : Ref sig .tc := ⟨.hbm, 133, rfl⟩
abbrev main_call2_call0_call0_v49 : Ref sig .tc := ⟨.hbm, 134, rfl⟩
abbrev main_call2_call0_call0_c_12 : Ref sig .tc := ⟨.hbm, 135, rfl⟩
abbrev main_call2_call0_call0_v50 : Ref sig .tc := ⟨.hbm, 136, rfl⟩
abbrev main_call2_call0_call0_v51 : Ref sig .tc := ⟨.hbm, 137, rfl⟩
abbrev main_call2_call0_call0_v52 : Ref sig .tc := ⟨.hbm, 138, rfl⟩
abbrev main_call2_call0_call0_v53 : Ref sig .tc := ⟨.hbm, 139, rfl⟩
abbrev main_call2_call0_call0_v54 : Ref sig .tc := ⟨.hbm, 140, rfl⟩
abbrev main_call2_call0_call0_c_13 : Ref sig .tc := ⟨.hbm, 141, rfl⟩
abbrev main_call2_call0_call0_v55 : Ref sig .tc := ⟨.hbm, 142, rfl⟩
abbrev main_call2_call0_call0_v56 : Ref sig .tc := ⟨.hbm, 143, rfl⟩
abbrev main_call2_call0_call0_c_14 : Ref sig .tc := ⟨.hbm, 144, rfl⟩
abbrev main_call2_call0_call0_v57 : Ref sig .tc := ⟨.hbm, 145, rfl⟩
abbrev main_call2_call0_call0_v58 : Ref sig .tc := ⟨.hbm, 146, rfl⟩
abbrev main_call2_call0_call0_v59 : Ref sig .tc := ⟨.hbm, 147, rfl⟩
abbrev main_call2_call0_call0_v60 : Ref sig .tc := ⟨.hbm, 148, rfl⟩
abbrev main_call2_call0_call0_v61 : Ref sig .tc := ⟨.hbm, 149, rfl⟩
abbrev main_call2_call0_call0_c_15 : Ref sig .tc := ⟨.hbm, 150, rfl⟩
abbrev main_call2_call0_call0_v62 : Ref sig .tc := ⟨.hbm, 151, rfl⟩
abbrev main_call2_call0_call0_v63 : Ref sig .tc := ⟨.hbm, 152, rfl⟩
abbrev main_call2_call0_call0_c_16 : Ref sig .tc := ⟨.hbm, 153, rfl⟩
abbrev main_call2_call0_call0_v64 : Ref sig .tc := ⟨.hbm, 154, rfl⟩
abbrev main_call2_call0_call0_v65 : Ref sig .tc := ⟨.hbm, 155, rfl⟩
abbrev main_call2_call0_call0_v66 : Ref sig .tc := ⟨.hbm, 156, rfl⟩
abbrev main_call2_call0_call0_v67 : Ref sig .tc := ⟨.hbm, 157, rfl⟩
abbrev main_call2_call0_call0_v68 : Ref sig .tc := ⟨.hbm, 158, rfl⟩
abbrev main_call2_call0_call0_v69 : Ref sig .tc := ⟨.hbm, 159, rfl⟩
abbrev main_call2_call0_call0_v70 : Ref sig .tc := ⟨.hbm, 160, rfl⟩
abbrev main_call2_call0_call0_v71 : Ref sig .tc := ⟨.hbm, 161, rfl⟩
abbrev main_call2_call0_call0_c_17 : Ref sig .tc := ⟨.hbm, 162, rfl⟩
abbrev main_call2_call0_call0_v72 : Ref sig .tc := ⟨.hbm, 163, rfl⟩
abbrev main_call2_call0_call0_v73 : Ref sig .tc := ⟨.hbm, 164, rfl⟩
abbrev main_call2_call0_call0_v74 : Ref sig .tc := ⟨.hbm, 165, rfl⟩
abbrev main_call2_call0_call0_c_18 : Ref sig .tc := ⟨.hbm, 166, rfl⟩
abbrev main_call2_call0_call0_v75 : Ref sig .tc := ⟨.hbm, 167, rfl⟩
abbrev main_call2_call0_call0_v76 : Ref sig .tc := ⟨.hbm, 168, rfl⟩
abbrev main_call2_call0_call0_c_19 : Ref sig .tc := ⟨.hbm, 169, rfl⟩
abbrev main_call2_call0_call0_v77 : Ref sig .tc := ⟨.hbm, 170, rfl⟩
abbrev main_call2_call0_call0_v78 : Ref sig .tc := ⟨.hbm, 171, rfl⟩
abbrev main_call2_call0_call0_v79 : Ref sig .tc := ⟨.hbm, 172, rfl⟩
abbrev main_call2_call0_call0_v80 : Ref sig .tc := ⟨.hbm, 173, rfl⟩
abbrev main_call2_call0_call0_v81 : Ref sig .tc := ⟨.hbm, 174, rfl⟩
abbrev main_call2_call0_call0_c_20 : Ref sig .tc := ⟨.hbm, 175, rfl⟩
abbrev main_call2_call0_call0_v82 : Ref sig .tc := ⟨.hbm, 176, rfl⟩
abbrev main_call2_call0_call0_v83 : Ref sig .tc := ⟨.hbm, 177, rfl⟩
abbrev main_call2_call0_call0_c_21 : Ref sig .tc := ⟨.hbm, 178, rfl⟩
abbrev main_call2_call0_call0_v84 : Ref sig .tc := ⟨.hbm, 179, rfl⟩
abbrev main_call2_call0_call0_v85 : Ref sig .tc := ⟨.hbm, 180, rfl⟩
abbrev main_call2_call0_call0_v86 : Ref sig .tc := ⟨.hbm, 181, rfl⟩
abbrev main_call2_call0_call0_v87 : Ref sig .tc := ⟨.hbm, 182, rfl⟩
abbrev main_call2_call0_call0_v88 : Ref sig .tc := ⟨.hbm, 183, rfl⟩
abbrev main_call2_call0_call0_c_22 : Ref sig .tc := ⟨.hbm, 184, rfl⟩
abbrev main_call2_call0_call0_v89 : Ref sig .tc := ⟨.hbm, 185, rfl⟩
abbrev main_call2_call0_call0_v90 : Ref sig .tc := ⟨.hbm, 186, rfl⟩
abbrev main_call2_call0_call0_c_23 : Ref sig .tc := ⟨.hbm, 187, rfl⟩
abbrev main_call2_call0_call0_v91 : Ref sig .tc := ⟨.hbm, 188, rfl⟩
abbrev main_call2_call0_call0_v92 : Ref sig .tc := ⟨.hbm, 189, rfl⟩
abbrev main_call2_call0_call0_v93 : Ref sig .tc := ⟨.hbm, 190, rfl⟩
abbrev main_call2_call0_call0_v94 : Ref sig .tc := ⟨.hbm, 191, rfl⟩
abbrev main_call2_call0_call0_v95 : Ref sig .tc := ⟨.hbm, 192, rfl⟩
abbrev main_call2_call0_call0_c_24 : Ref sig .tc := ⟨.hbm, 193, rfl⟩
abbrev main_call2_call0_call0_v96 : Ref sig .tc := ⟨.hbm, 194, rfl⟩
abbrev main_call2_call0_call0_v97 : Ref sig .tc := ⟨.hbm, 195, rfl⟩
abbrev main_call2_call0_call0_c_25 : Ref sig .tc := ⟨.hbm, 196, rfl⟩
abbrev main_call2_call0_call0_v98 : Ref sig .tc := ⟨.hbm, 197, rfl⟩
abbrev main_call2_call0_call0_v99 : Ref sig .tc := ⟨.hbm, 198, rfl⟩
abbrev main_call2_call0_call0_v100 : Ref sig .tc := ⟨.hbm, 199, rfl⟩
abbrev main_call2_call0_call0_v101 : Ref sig .tc := ⟨.hbm, 200, rfl⟩
abbrev main_call2_call0_call0_v102 : Ref sig .tc := ⟨.hbm, 201, rfl⟩
abbrev main_call2_call0_call0_v103 : Ref sig .tc := ⟨.hbm, 202, rfl⟩
abbrev main_call2_call0_call0_v104 : Ref sig .tc := ⟨.hbm, 203, rfl⟩
abbrev main_call2_call0_call0_v105 : Ref sig .tc := ⟨.hbm, 204, rfl⟩
abbrev main_call2_call0_call0_c_26 : Ref sig .tc := ⟨.hbm, 205, rfl⟩
abbrev main_call2_call0_call0_v106 : Ref sig .tc := ⟨.hbm, 206, rfl⟩
abbrev main_call2_call0_call0_v107 : Ref sig .tc := ⟨.hbm, 207, rfl⟩
abbrev main_call2_call0_call0_v108 : Ref sig .tc := ⟨.hbm, 208, rfl⟩
abbrev main_call2_call0_call0_c_27 : Ref sig .tc := ⟨.hbm, 209, rfl⟩
abbrev main_call2_call0_call0_v109 : Ref sig .tc := ⟨.hbm, 210, rfl⟩
abbrev main_call2_call0_call0_v110 : Ref sig .tc := ⟨.hbm, 211, rfl⟩
abbrev main_call2_call0_call0_c_28 : Ref sig .tc := ⟨.hbm, 212, rfl⟩
abbrev main_call2_call0_call0_v111 : Ref sig .tc := ⟨.hbm, 213, rfl⟩
abbrev main_call2_call0_call0_v112 : Ref sig .tc := ⟨.hbm, 214, rfl⟩
abbrev main_call2_call0_call0_v113 : Ref sig .tc := ⟨.hbm, 215, rfl⟩
abbrev main_call2_call0_call0_v114 : Ref sig .tc := ⟨.hbm, 216, rfl⟩
abbrev main_call2_call0_call0_v115 : Ref sig .tc := ⟨.hbm, 217, rfl⟩
abbrev main_call2_call0_call0_c_29 : Ref sig .tc := ⟨.hbm, 218, rfl⟩
abbrev main_call2_call0_call0_v116 : Ref sig .tc := ⟨.hbm, 219, rfl⟩
abbrev main_call2_call0_call0_v117 : Ref sig .tc := ⟨.hbm, 220, rfl⟩
abbrev main_call2_call0_call0_c_30 : Ref sig .tc := ⟨.hbm, 221, rfl⟩
abbrev main_call2_call0_call0_v118 : Ref sig .tc := ⟨.hbm, 222, rfl⟩
abbrev main_call2_call0_call0_v119 : Ref sig .tc := ⟨.hbm, 223, rfl⟩
abbrev main_call2_call0_call0_v120 : Ref sig .tc := ⟨.hbm, 224, rfl⟩
abbrev main_call2_call0_call0_v121 : Ref sig .tc := ⟨.hbm, 225, rfl⟩
abbrev main_call2_call0_call0_v122 : Ref sig .tc := ⟨.hbm, 226, rfl⟩
abbrev main_call2_call0_call0_c_31 : Ref sig .tc := ⟨.hbm, 227, rfl⟩
abbrev main_call2_call0_call0_v123 : Ref sig .tc := ⟨.hbm, 228, rfl⟩
abbrev main_call2_call0_call0_v124 : Ref sig .tc := ⟨.hbm, 229, rfl⟩
abbrev main_call2_call0_call0_c_32 : Ref sig .tc := ⟨.hbm, 230, rfl⟩
abbrev main_call2_call0_call0_v125 : Ref sig .tc := ⟨.hbm, 231, rfl⟩
abbrev main_call2_call0_call0_v126 : Ref sig .tc := ⟨.hbm, 232, rfl⟩
abbrev main_call2_call0_call0_v127 : Ref sig .tc := ⟨.hbm, 233, rfl⟩
abbrev main_call2_call0_call0_v128 : Ref sig .tc := ⟨.hbm, 234, rfl⟩
abbrev main_call2_call0_call0_v129 : Ref sig .tc := ⟨.hbm, 235, rfl⟩
abbrev main_call2_call0_call0_c_33 : Ref sig .tc := ⟨.hbm, 236, rfl⟩
abbrev main_call2_call0_call0_v130 : Ref sig .tc := ⟨.hbm, 237, rfl⟩
abbrev main_call2_call0_call0_v131 : Ref sig .tc := ⟨.hbm, 238, rfl⟩
abbrev main_call2_call0_call0_c_34 : Ref sig .tc := ⟨.hbm, 239, rfl⟩
abbrev main_call2_call0_call0_v132 : Ref sig .tc := ⟨.hbm, 240, rfl⟩
abbrev main_call2_call0_call0_v133 : Ref sig .tc := ⟨.hbm, 241, rfl⟩
abbrev main_call2_call0_call0_v134 : Ref sig .tc := ⟨.hbm, 242, rfl⟩
abbrev main_call2_call0_call0_v135 : Ref sig .tc := ⟨.hbm, 243, rfl⟩
abbrev main_call2_call0_call0_v136 : Ref sig .tc := ⟨.hbm, 244, rfl⟩
abbrev main_call2_call0_call0_v137 : Ref sig .tc := ⟨.hbm, 245, rfl⟩
abbrev main_call2_call0_call0_v138 : Ref sig .tc := ⟨.hbm, 246, rfl⟩
abbrev main_call2_call0_call0_v139 : Ref sig .tc := ⟨.hbm, 247, rfl⟩
abbrev main_call2_call0_call0_c_35 : Ref sig .tc := ⟨.hbm, 248, rfl⟩
abbrev main_call2_call0_call0_v140 : Ref sig .tc := ⟨.hbm, 249, rfl⟩
abbrev main_call2_call0_call0_v141 : Ref sig .tc := ⟨.hbm, 250, rfl⟩
abbrev main_call2_call0_call0_v142 : Ref sig .tc := ⟨.hbm, 251, rfl⟩
abbrev main_call2_call0_call0_c_36 : Ref sig .tc := ⟨.hbm, 252, rfl⟩
abbrev main_call2_call0_call0_v143 : Ref sig .tc := ⟨.hbm, 253, rfl⟩
abbrev main_call2_call0_call0_v144 : Ref sig .tc := ⟨.hbm, 254, rfl⟩
abbrev main_call2_call0_call0_c_37 : Ref sig .tc := ⟨.hbm, 255, rfl⟩
abbrev main_call2_call0_call0_v145 : Ref sig .tc := ⟨.hbm, 256, rfl⟩
abbrev main_call2_call0_call0_v146 : Ref sig .tc := ⟨.hbm, 257, rfl⟩
abbrev main_call2_call0_call0_v147 : Ref sig .tc := ⟨.hbm, 258, rfl⟩
abbrev main_call2_call0_call0_v148 : Ref sig .tc := ⟨.hbm, 259, rfl⟩
abbrev main_call2_call0_call0_v149 : Ref sig .tc := ⟨.hbm, 260, rfl⟩
abbrev main_call2_call0_call0_c_38 : Ref sig .tc := ⟨.hbm, 261, rfl⟩
abbrev main_call2_call0_call0_v150 : Ref sig .tc := ⟨.hbm, 262, rfl⟩
abbrev main_call2_call0_call0_v151 : Ref sig .tc := ⟨.hbm, 263, rfl⟩
abbrev main_call2_call0_call0_c_39 : Ref sig .tc := ⟨.hbm, 264, rfl⟩
abbrev main_call2_call0_call0_v152 : Ref sig .tc := ⟨.hbm, 265, rfl⟩
abbrev main_call2_call0_call0_v153 : Ref sig .tc := ⟨.hbm, 266, rfl⟩
abbrev main_call2_call0_call0_v154 : Ref sig .tc := ⟨.hbm, 267, rfl⟩
abbrev main_call2_call0_call0_v155 : Ref sig .tc := ⟨.hbm, 268, rfl⟩
abbrev main_call2_call0_call0_v156 : Ref sig .tc := ⟨.hbm, 269, rfl⟩
abbrev main_call2_call0_call0_c_40 : Ref sig .tc := ⟨.hbm, 270, rfl⟩
abbrev main_call2_call0_call0_v157 : Ref sig .tc := ⟨.hbm, 271, rfl⟩
abbrev main_call2_call0_call0_v158 : Ref sig .tc := ⟨.hbm, 272, rfl⟩
abbrev main_call2_call0_call0_c_41 : Ref sig .tc := ⟨.hbm, 273, rfl⟩
abbrev main_call2_call0_call0_v159 : Ref sig .tc := ⟨.hbm, 274, rfl⟩
abbrev main_call2_call0_call0_v160 : Ref sig .tc := ⟨.hbm, 275, rfl⟩
abbrev main_call2_call0_call0_v161 : Ref sig .tc := ⟨.hbm, 276, rfl⟩
abbrev main_call2_call0_call0_v162 : Ref sig .tc := ⟨.hbm, 277, rfl⟩
abbrev main_call2_call0_call0_v163 : Ref sig .tc := ⟨.hbm, 278, rfl⟩
abbrev main_call2_call0_call0_c_42 : Ref sig .tc := ⟨.hbm, 279, rfl⟩
abbrev main_call2_call0_call0_v164 : Ref sig .tc := ⟨.hbm, 280, rfl⟩
abbrev main_call2_call0_call0_v165 : Ref sig .tc := ⟨.hbm, 281, rfl⟩
abbrev main_call2_call0_call0_c_43 : Ref sig .tc := ⟨.hbm, 282, rfl⟩
abbrev main_call2_call0_call0_v166 : Ref sig .tc := ⟨.hbm, 283, rfl⟩
abbrev main_call2_call0_call0_v167 : Ref sig .tc := ⟨.hbm, 284, rfl⟩
abbrev main_call2_call0_call0_v168 : Ref sig .tc := ⟨.hbm, 285, rfl⟩
abbrev main_call2_call0_call0_v169 : Ref sig .tc := ⟨.hbm, 286, rfl⟩
abbrev main_call2_call0_call0_v170 : Ref sig .tc := ⟨.hbm, 287, rfl⟩
abbrev main_call2_call0_v18_0 : Ref sig .tc := ⟨.hbm, 288, rfl⟩
abbrev main_call2_call0_call0_v172 : Ref sig .tc := ⟨.hbm, 289, rfl⟩
abbrev main_call2_call0_call0_v173 : Ref sig .tc := ⟨.hbm, 290, rfl⟩
abbrev main_call2_call0_call0_c_44 : Ref sig .tc := ⟨.hbm, 291, rfl⟩
abbrev main_call2_call0_call0_v174 : Ref sig .tc := ⟨.hbm, 292, rfl⟩
abbrev main_call2_call0_v18_1 : Ref sig .tc := ⟨.hbm, 293, rfl⟩
abbrev main_call2_call0_v19 : Ref sig .tc := ⟨.hbm, 294, rfl⟩
abbrev main_call2_call0_c_2 : Ref sig .tc := ⟨.hbm, 295, rfl⟩
abbrev main_call2_call0_v20 : Ref sig .tc := ⟨.hbm, 296, rfl⟩
abbrev main_call2_call0_v21 : Ref sig .tc := ⟨.hbm, 297, rfl⟩
abbrev main_call2_call0_c_3 : Ref sig .tc := ⟨.hbm, 298, rfl⟩
abbrev main_call2_call0_v22 : Ref sig .tc := ⟨.hbm, 299, rfl⟩
abbrev main_call2_call0_v23 : Ref sig .tc := ⟨.hbm, 300, rfl⟩
abbrev main_call2_call0_v24 : Ref sig .tc := ⟨.hbm, 301, rfl⟩
abbrev main_call2_call0_cst : Ref sig .tc := ⟨.hbm, 302, rfl⟩
abbrev main_call2_call0_v25 : Ref sig .tc := ⟨.hbm, 303, rfl⟩
abbrev main_call2_call0_v26 : Ref sig .tc := ⟨.hbm, 304, rfl⟩
abbrev main_call2_call0_v27 : Ref sig .tc := ⟨.hbm, 305, rfl⟩
abbrev main_call2_call0_v28 : Ref sig .tc := ⟨.hbm, 306, rfl⟩
abbrev main_call2_call0_v29 : Ref sig .tc := ⟨.hbm, 307, rfl⟩
abbrev main_call2_call0_v30 : Ref sig .tc := ⟨.hbm, 308, rfl⟩
abbrev main_call2_call0_v31 : Ref sig .tc := ⟨.hbm, 309, rfl⟩
abbrev main_call2_call0_v32 : Ref sig .tc := ⟨.hbm, 310, rfl⟩
abbrev main_call2_v0 : Ref sig .tc := ⟨.hbm, 311, rfl⟩
abbrev main_call2_v1 : Ref sig .tc := ⟨.hbm, 312, rfl⟩
abbrev main_call2_v2 : Ref sig .tc := ⟨.hbm, 313, rfl⟩
abbrev main_call2_v3 : Ref sig .tc := ⟨.hbm, 314, rfl⟩
abbrev main_v35 : Ref sig .tc := ⟨.hbm, 315, rfl⟩
abbrev main_v36 : Ref sig .tc := ⟨.hbm, 316, rfl⟩
abbrev main_call3_v0 : Ref sig .tc := ⟨.hbm, 317, rfl⟩
abbrev main_call3_cst : Ref sig .tc := ⟨.hbm, 318, rfl⟩
abbrev main_call3_c : Ref sig .tc := ⟨.hbm, 319, rfl⟩
abbrev main_call3_v1_0 : Ref sig .tc := ⟨.hbm, 320, rfl⟩
abbrev main_v37 : Ref sig .tc := ⟨.hbm, 321, rfl⟩

abbrev nD : Nat := 1
abbrev τ : Topo := Topo.v7x

variable {F : FTy → Type} [FloatOps F]
-- ==== Proof.Pass1.lean ====
/- The body of the first kernel at one grid point: what it leaves in the two accumulators. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Tactic
public import Idealize.ShloMosaic.Lib.Pipeline.Value

@[expose] public section

noncomputable section

namespace Cert.Proof.Pass

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F] [Named F]

/-- The resource algebra: the pipeline's own. -/
abbrev UU : Type := UR sig nD τ

local notation "𝕄" => MT nD τ sig Unit (Elt F) ℕ UU ℕ

theorem hz : (![0, 0] : Fin 2 → Nat) = fun _ => 0 := funext fun a => by fin_cases a <;> rfl

/-- The condition "first grid point" as the body computes it. -/
abbrev first (i : Fin 123) : Prop :=
  Scalar.cmpi .ne (Scalar.extui (Scalar.cmpi .eq (BitVec.ofNat 32 i.val) 0#32) : BitVec 32) 0#32 = (1#1 : BitVec 1)

theorem first_iff : ∀ i : Fin 123, first i ↔ i.val = 0 := by decide +kernel

/-- The contents of a whole buffer after a list of covering stores, the last of which stores `w`. -/
theorem read_last {sp : Space} {S : Shape} {e : EltTy} (M : Memref sig .tc sp S e) {off : Fin S.rank → Nat}
    (h : off = fun _ => 0) (inb : ∀ a, off a + S.size a ≤ S.size a) (w : S.Idx → Elt F e)
    (L : List (View.Piece (Elt F) S e)) (f) :
    M.view.read (Elt F) (M.view.writes (Elt F) f (⟨Rect.unit off S.size inb, w⟩ :: L)) = w := by
  rw [View.read_writes_eq_canon _ _ _ fun y => ⟨_, List.mem_cons_self, View.mem_set_unit_zero h inb y⟩,
    View.canon_cons_unit_zero h]

set_option maxHeartbeats 1000000 in
/-- The body at the first point: the accumulators start from the fill and zero. -/
theorem pass1_first (c : Dev nD) (i : grid0.Coords) (hi : first (i 0))
    (M1 : Memref sig .tc .vmem S32x8192 .f32) (h1 : M1.IsWhole) (M2 : Memref sig .tc .vmem S32x8192 .i32) (h2 : M2.IsWhole)
    (M3 : Memref sig .tc .vmem S32x1 .f32) (h3 : M3.IsWhole) (M4 : Memref sig .tc .vmem S32x1 .f32) (h4 : M4.IsWhole)
    (X1 : Vec F S32x8192 .f32) (X2 : Vec F S32x8192 .i32) (X3 X4 : Vec F S32x1 .f32) (E : Set ℕ) (Q : PUnit → sProp 𝕄) :
    iprop(owns (c : Thread nD τ) M1 fullShare X1 ∗ owns (c : Thread nD τ) M2 fullShare X2
      ∗ owns (c : Thread nD τ) M3 fullShare X3 ∗ owns (c : Thread nD τ) M4 fullShare X4
      ∗ (iprop(owns (c : Thread nD τ) M1 fullShare X1 ∗ owns (c : Thread nD τ) M2 fullShare X2
          ∗ owns (c : Thread nD τ) M3 fullShare (k0_pay5 i X1 X2 k0_pay1)
          ∗ owns (c : Thread nD τ) M4 fullShare (k0_pay6 i X1 X2 k0_pay1 k0_pay2)) -∗ Q ⟨⟩))
      ⊢ wp frame (wpE (defs₀ (F := F)) Variants.none c none) E (cc0__pass1_body i M1 h1 M2 h2 M3 h3 M4 h4) Q := by
  unfold owns
  iintro ⟨⟨%f1, %e1, H1⟩, ⟨%f2, %e2, H2⟩, ⟨%f3, %e3, H3⟩, ⟨%f4, %e4, H4⟩, Hk⟩
  sl_exec!
  sl_step
  iapply Hk
  isplitl [H1]; · iexists f1; isplitr; swap; (· iexact H1); ipureintro; exact e1
  isplitl [H2]; · iexists f2; isplitr; swap; (· iexact H2); ipureintro; exact e2
  isplitl [H3]
  · iexists _; isplitr; swap; (· iexact H3); ipureintro
    sl_unfold_words
    rw [read_last (S := S32x1) _ hz]
    simp only [View.readAt_eq_ld, e1, e2, e3, e4, View.ld_unit_zero (S := S32x8192) hz, View.ld_unit_zero (S := S32x1) hz, View.readCov_unit_zero (S := S32x1) _ hz]
  · iexists _; isplitr; swap; (· iexact H4); ipureintro
    sl_unfold_words
    rw [read_last (S := S32x1) _ hz]
    simp only [View.readAt_eq_ld, e1, e2, e3, e4, View.ld_unit_zero (S := S32x8192) hz, View.ld_unit_zero (S := S32x1) hz, View.readCov_unit_zero (S := S32x1) _ hz]

set_option maxHeartbeats 1000000 in
/-- The body at a later point: the accumulators start from what they held. -/
theorem pass1_next (c : Dev nD) (i : grid0.Coords) (hi : ¬first (i 0))
    (M1 : Memref sig .tc .vmem S32x8192 .f32) (h1 : M1.IsWhole) (M2 : Memref sig .tc .vmem S32x8192 .i32) (h2 : M2.IsWhole)
    (M3 : Memref sig .tc .vmem S32x1 .f32) (h3 : M3.IsWhole) (M4 : Memref sig .tc .vmem S32x1 .f32) (h4 : M4.IsWhole)
    (X1 : Vec F S32x8192 .f32) (X2 : Vec F S32x8192 .i32) (X3 X4 : Vec F S32x1 .f32) (E : Set ℕ) (Q : PUnit → sProp 𝕄) :
    iprop(owns (c : Thread nD τ) M1 fullShare X1 ∗ owns (c : Thread nD τ) M2 fullShare X2
      ∗ owns (c : Thread nD τ) M3 fullShare X3 ∗ owns (c : Thread nD τ) M4 fullShare X4
      ∗ (iprop(owns (c : Thread nD τ) M1 fullShare X1 ∗ owns (c : Thread nD τ) M2 fullShare X2
          ∗ owns (c : Thread nD τ) M3 fullShare (k0_pay5 i X1 X2 X3)
          ∗ owns (c : Thread nD τ) M4 fullShare (k0_pay6 i X1 X2 X3 X4)) -∗ Q ⟨⟩))
      ⊢ wp frame (wpE (defs₀ (F := F)) Variants.none c none) E (cc0__pass1_body i M1 h1 M2 h2 M3 h3 M4 h4) Q := by
  unfold owns
  iintro ⟨⟨%f1, %e1, H1⟩, ⟨%f2, %e2, H2⟩, ⟨%f3, %e3, H3⟩, ⟨%f4, %e4, H4⟩, Hk⟩
  sl_exec!
  sl_step
  iapply Hk
  isplitl [H1]; · iexists f1; isplitr; swap; (· iexact H1); ipureintro; exact e1
  isplitl [H2]; · iexists f2; isplitr; swap; (· iexact H2); ipureintro; exact e2
  isplitl [H3]
  · iexists _; isplitr; swap; (· iexact H3); ipureintro
    sl_unfold_words
    rw [read_last (S := S32x1) _ hz]
    simp only [View.readAt_eq_ld, e1, e2, e3, e4, View.ld_unit_zero (S := S32x8192) hz, View.ld_unit_zero (S := S32x1) hz, View.readCov_unit_zero (S := S32x1) _ hz]
  · iexists _; isplitr; swap; (· iexact H4); ipureintro
    sl_unfold_words
    rw [read_last (S := S32x1) _ hz]
    simp only [View.readAt_eq_ld, e1, e2, e3, e4, View.ld_unit_zero (S := S32x8192) hz, View.ld_unit_zero (S := S32x1) hz, View.readCov_unit_zero (S := S32x1) _ hz]

end Cert.Proof.Pass
-- ==== Proof.Pass2.lean ====
/- The body of the second kernel at one grid point: what it leaves in the probabilities' block, in the chosen action's
   accumulator and in the running maximum. -/
module

public import proofs.«01_k».proof.Proof.Pass1

@[expose] public section

noncomputable section

namespace Cert.Proof.Pass

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable {F : FTy → Type} [FloatOps F] [Named F]

local notation "𝕄" => MT nD τ sig Unit (Elt F) ℕ UU ℕ

/-- The third word of the key schedule. -/
def ks : BitVec 32 := Scalar.xori (Scalar.xori 0#32 42#32) 466688986#32

/-- The generator's words on the way: after the first, second and third groups of rounds. -/
def w79 (i : grid1.Coords) : IVec S32x8192 32 := k1_pay19 (k1_pay6 i) k1_pay7 ks k1_pay8
def w80 (i : grid1.Coords) : IVec S32x8192 32 := k1_pay20 (k1_pay6 i) k1_pay7 ks k1_pay8
def w127 (i : grid1.Coords) : IVec S32x8192 32 := k1_pay32 ks (w79 i) (w80 i) k1_pay21
def w128 (i : grid1.Coords) : IVec S32x8192 32 := k1_pay33 ks (w79 i) (w80 i) k1_pay21
def w170 (i : grid1.Coords) : IVec S32x8192 32 := k1_pay42 (w127 i) (w128 i)
def w172 (i : grid1.Coords) : IVec S32x8192 32 := k1_pay43 ks (w127 i) (w128 i)

/-- The uniform draw before its shift and clamp. -/
def unif (i : grid1.Coords) : FVec F S32x8192 .f32 := k1_pay45 ks (w170 i) (w172 i) k1_pay44

/-- The action accumulator after a point that found running maximum `r` and action `a`. -/
def newAct (i : grid1.Coords) (x : Vec F S32x8192 .f32) (k : Vec F S32x8192 .i32) (m s r : Vec F S32x1 .f32)
    (a : Vec F S32x1 .i32) : Vec F S32x1 .i32 :=
  k1_pay51 (k1_pay2 i) (k1_pay3 (F := F) i k) (k1_pay4 i m s x k) (unif i) k1_pay46 r a

/-- The running maximum after it. -/
def newMax (i : grid1.Coords) (x : Vec F S32x8192 .f32) (k : Vec F S32x8192 .i32) (m s r : Vec F S32x1 .f32) :
    Vec F S32x1 .f32 :=
  k1_pay1 (k1_pay52 (k1_pay3 (F := F) i k) (k1_pay4 i m s x k) (unif i) k1_pay46 r)

/-- The part of the body on the two accumulators, up to the last store, whose value it returns. -/
def tail2 (i : grid1.Coords) (M6 : Memref sig .tc .vmem S32x1 .i32) (M7 : Memref sig .tc .vmem S32x1 .f32)
    (m s : Vec F S32x1 .f32) (x : Vec F S32x8192 .f32) (k : Vec F S32x8192 .i32) :
    Prog (TpuEff nD τ sig (Elt F) Λ₀ .tc) (Vec F S32x1 .f32) := do
  let whole := Rect.unit (s := S32x1) ![0, 0] S32x1.size inb_S32x1_S32x1_0_0
  if _h : first (i 0) then do
    let _ : Vec F S32x1 .f32 ← Prog.lift (.load M7 whole.toLoadRect (View.loadsAt_vmem h_S32x1))
    Prog.lift (.store M7 whole (k1_pay49 (F := F)) Finset.univ (View.stores_vmem_bits_univ h_S32x1 rfl) (.inl rfl))
    let _ : Vec F S32x1 .i32 ← Prog.lift (.load M6 whole.toLoadRect (View.loadsAt_vmem h_S32x1))
    Prog.lift (.store M6 whole k1_pay50 Finset.univ (View.stores_vmem_bits_univ h_S32x1 rfl) (.inl rfl))
    pure ⟨⟩
  else do
    pure ⟨⟩
  let r : Vec F S32x1 .f32 ← Prog.lift (.load M7 whole.toLoadRect (View.loadsAt_vmem h_S32x1))
  let a : Vec F S32x1 .i32 ← Prog.lift (.load M6 whole.toLoadRect (View.loadsAt_vmem h_S32x1))
  let _ : Vec F S32x1 .i32 ← Prog.lift (.load M6 whole.toLoadRect (View.loadsAt_vmem h_S32x1))
  Prog.lift (.store M6 whole (newAct i x k m s r a) Finset.univ (View.stores_vmem_bits_univ h_S32x1 rfl) (.inl rfl))
  let r' : Vec F S32x1 .f32 ← Prog.lift (.load M7 whole.toLoadRect (View.loadsAt_vmem h_S32x1))
  let _ : Vec F S32x1 .f32 ← Prog.lift (.load M7 whole.toLoadRect (View.loadsAt_vmem h_S32x1))
  pure (k1_pay52 (k1_pay3 (F := F) i k) (k1_pay4 i m s x k) (unif i) k1_pay46 r')

/-- The body with its arithmetic gathered: the loads and stores in order, each store's value a function of the loaded
    blocks. -/
def body2 (i : grid1.Coords) (M1 : Memref sig .tc .vmem S32x8192 .f32) (M2 : Memref sig .tc .vmem S32x8192 .i32)
    (M3 M4 : Memref sig .tc .vmem S32x1 .f32) (M5 : Memref sig .tc .vmem S32x8192 .f32)
    (M6 : Memref sig .tc .vmem S32x1 .i32) (M7 : Memref sig .tc .vmem S32x1 .f32) :
    Prog (TpuEff nD τ sig (Elt F) Λ₀ .tc) PUnit := do
  let whole := Rect.unit (s := S32x1) ![0, 0] S32x1.size inb_S32x1_S32x1_0_0
  let block := Rect.unit (s := S32x8192) ![0, 0] S32x8192.size inb_S32x8192_S32x8192_0_0
  let m : Vec F S32x1 .f32 ← Prog.lift (.load M3 whole.toLoadRect (View.loadsAt_vmem h_S32x1))
  let s : Vec F S32x1 .f32 ← Prog.lift (.load M4 whole.toLoadRect (View.loadsAt_vmem h_S32x1))
  let x : Vec F S32x8192 .f32 ← Prog.lift (.load M1 block.toLoadRect (View.loadsAt_vmem h_S32x8192))
  let k : Vec F S32x8192 .i32 ← Prog.lift (.load M2 block.toLoadRect (View.loadsAt_vmem h_S32x8192))
  let _ : Vec F S32x8192 .f32 ← Prog.lift (.load M5 block.toLoadRect (View.loadsAt_vmem h_S32x8192))
  Prog.lift (.store M5 block (k1_pay5 i m s x k) Finset.univ (View.stores_vmem_bits_univ h_S32x8192 rfl) (.inl rfl))
  let w : Vec F S32x1 .f32 ← tail2 i M6 M7 m s x k
  Prog.lift (.store M7 whole (k1_pay1 w) Finset.univ (View.stores_vmem_bits_univ h_S32x1 rfl) (.inl rfl))
  pure ⟨⟩

theorem body2_eq (i : grid1.Coords) (M1 : Memref sig .tc .vmem S32x8192 .f32) (h1 : M1.IsWhole)
    (M2 : Memref sig .tc .vmem S32x8192 .i32) (h2 : M2.IsWhole) (M3 : Memref sig .tc .vmem S32x1 .f32) (h3 : M3.IsWhole)
    (M4 : Memref sig .tc .vmem S32x1 .f32) (h4 : M4.IsWhole) (M5 : Memref sig .tc .vmem S32x8192 .f32) (h5 : M5.IsWhole)
    (M6 : Memref sig .tc .vmem S32x1 .i32) (h6 : M6.IsWhole) (M7 : Memref sig .tc .vmem S32x1 .f32) (h7 : M7.IsWhole) :
    cc1__pass2_body (F := F) i M1 h1 M2 h2 M3 h3 M4 h4 M5 h5 M6 h6 M7 h7 = body2 i M1 M2 M3 M4 M5 M6 M7 := by
  rw [cc1__pass2_body_eq_skeleton]
  unfold cc1__pass2_body_skel
  rw [k1_part1_eq_skeleton, k1_part2_eq_skeleton, k1_part3_eq_skeleton, k1_part4_eq_skeleton, k1_part5_eq_skeleton,
    k1_part6_eq_skeleton]
  unfold k1_part1_skel k1_part2_skel k1_part3_skel k1_part4_skel k1_part5_skel k1_part6_skel body2 tail2
  rfl

set_option maxHeartbeats 4000000 in
/-- The body at the first point: the accumulators start from the fill and zero. -/
theorem pass2_first (c : Dev nD) (i : grid1.Coords) (hi : first (i 0))
    (M1 : Memref sig .tc .vmem S32x8192 .f32) (h1 : M1.IsWhole) (M2 : Memref sig .tc .vmem S32x8192 .i32) (h2 : M2.IsWhole)
    (M3 : Memref sig .tc .vmem S32x1 .f32) (h3 : M3.IsWhole) (M4 : Memref sig .tc .vmem S32x1 .f32) (h4 : M4.IsWhole)
    (M5 : Memref sig .tc .vmem S32x8192 .f32) (h5 : M5.IsWhole) (M6 : Memref sig .tc .vmem S32x1 .i32) (h6 : M6.IsWhole)
    (M7 : Memref sig .tc .vmem S32x1 .f32) (h7 : M7.IsWhole)
    (X1 : Vec F S32x8192 .f32) (X2 : Vec F S32x8192 .i32) (X3 X4 : Vec F S32x1 .f32)
    (X5 : Vec F S32x8192 .f32) (X6 : Vec F S32x1 .i32) (X7 : Vec F S32x1 .f32) (E : Set ℕ) (Q : PUnit → sProp 𝕄) :
    iprop(owns (c : Thread nD τ) M1 fullShare X1 ∗ owns (c : Thread nD τ) M2 fullShare X2
      ∗ owns (c : Thread nD τ) M3 fullShare X3 ∗ owns (c : Thread nD τ) M4 fullShare X4
      ∗ owns (c : Thread nD τ) M5 fullShare X5 ∗ owns (c : Thread nD τ) M6 fullShare X6
      ∗ owns (c : Thread nD τ) M7 fullShare X7
      ∗ (iprop(owns (c : Thread nD τ) M1 fullShare X1 ∗ owns (c : Thread nD τ) M2 fullShare X2
          ∗ owns (c : Thread nD τ) M3 fullShare X3 ∗ owns (c : Thread nD τ) M4 fullShare X4
          ∗ owns (c : Thread nD τ) M5 fullShare (k1_pay5 i X3 X4 X1 X2)
          ∗ owns (c : Thread nD τ) M6 fullShare (newAct i X1 X2 X3 X4 k1_pay49 k1_pay50)
          ∗ owns (c : Thread nD τ) M7 fullShare (newMax i X1 X2 X3 X4 k1_pay49)) -∗ Q ⟨⟩))
      ⊢ wp frame (wpE (defs₀ (F := F)) Variants.none c none) E
          (cc1__pass2_body i M1 h1 M2 h2 M3 h3 M4 h4 M5 h5 M6 h6 M7 h7) Q := by
  rw [body2_eq]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  sl_exec!
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]
  · iexists _; isplitr; swap; (· iexact H5); ipureintro
    sl_unfold_words
    rw [read_last (S := S32x8192) _ hz]
    simp only [View.readAt_eq_ld, e1, e2, e3, e4, View.ld_unit_zero (S := S32x8192) hz, View.ld_unit_zero (S := S32x1) hz]
  isplitl [H6]
  · iexists _; isplitr; swap; (· iexact H6); ipureintro
    sl_unfold_words
    rw [read_last (S := S32x1) _ hz]
    simp only [View.readAt_eq_ld, e1, e2, e3, e4, e6, e7, View.ld_unit_zero (S := S32x8192) hz, View.ld_unit_zero (S := S32x1) hz, View.readCov_unit_zero (S := S32x1) _ hz]
  · iexists _; isplitr; swap; (· iexact H7); ipureintro
    sl_unfold_words
    rw [read_last (S := S32x1) _ hz]
    simp only [View.readAt_eq_ld, e1, e2, e3, e4, e6, e7, View.ld_unit_zero (S := S32x8192) hz, View.ld_unit_zero (S := S32x1) hz, View.readCov_unit_zero (S := S32x1) _ hz]
    rfl

set_option maxHeartbeats 4000000 in
/-- The body at a later point: the accumulators start from what they held. -/
theorem pass2_next (c : Dev nD) (i : grid1.Coords) (hi : ¬first (i 0))
    (M1 : Memref sig .tc .vmem S32x8192 .f32) (h1 : M1.IsWhole) (M2 : Memref sig .tc .vmem S32x8192 .i32) (h2 : M2.IsWhole)
    (M3 : Memref sig .tc .vmem S32x1 .f32) (h3 : M3.IsWhole) (M4 : Memref sig .tc .vmem S32x1 .f32) (h4 : M4.IsWhole)
    (M5 : Memref sig .tc .vmem S32x8192 .f32) (h5 : M5.IsWhole) (M6 : Memref sig .tc .vmem S32x1 .i32) (h6 : M6.IsWhole)
    (M7 : Memref sig .tc .vmem S32x1 .f32) (h7 : M7.IsWhole)
    (X1 : Vec F S32x8192 .f32) (X2 : Vec F S32x8192 .i32) (X3 X4 : Vec F S32x1 .f32)
    (X5 : Vec F S32x8192 .f32) (X6 : Vec F S32x1 .i32) (X7 : Vec F S32x1 .f32) (E : Set ℕ) (Q : PUnit → sProp 𝕄) :
    iprop(owns (c : Thread nD τ) M1 fullShare X1 ∗ owns (c : Thread nD τ) M2 fullShare X2
      ∗ owns (c : Thread nD τ) M3 fullShare X3 ∗ owns (c : Thread nD τ) M4 fullShare X4
      ∗ owns (c : Thread nD τ) M5 fullShare X5 ∗ owns (c : Thread nD τ) M6 fullShare X6
      ∗ owns (c : Thread nD τ) M7 fullShare X7
      ∗ (iprop(owns (c : Thread nD τ) M1 fullShare X1 ∗ owns (c : Thread nD τ) M2 fullShare X2
          ∗ owns (c : Thread nD τ) M3 fullShare X3 ∗ owns (c : Thread nD τ) M4 fullShare X4
          ∗ owns (c : Thread nD τ) M5 fullShare (k1_pay5 i X3 X4 X1 X2)
          ∗ owns (c : Thread nD τ) M6 fullShare (newAct i X1 X2 X3 X4 X7 X6)
          ∗ owns (c : Thread nD τ) M7 fullShare (newMax i X1 X2 X3 X4 X7)) -∗ Q ⟨⟩))
      ⊢ wp frame (wpE (defs₀ (F := F)) Variants.none c none) E
          (cc1__pass2_body i M1 h1 M2 h2 M3 h3 M4 h4 M5 h5 M6 h6 M7 h7) Q := by
  rw [body2_eq]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  sl_exec!
  sl_step
  iapply Hk
  isplitl [H1]; · iexists f1; isplitr; swap; (· iexact H1); ipureintro; exact e1
  isplitl [H2]; · iexists f2; isplitr; swap; (· iexact H2); ipureintro; exact e2
  isplitl [H3]; · iexists f3; isplitr; swap; (· iexact H3); ipureintro; exact e3
  isplitl [H4]; · iexists f4; isplitr; swap; (· iexact H4); ipureintro; exact e4
  isplitl [H5]
  · iexists _; isplitr; swap; (· iexact H5); ipureintro
    sl_unfold_words
    rw [read_last (S := S32x8192) _ hz]
    simp only [View.readAt_eq_ld, e1, e2, e3, e4, View.ld_unit_zero (S := S32x8192) hz, View.ld_unit_zero (S := S32x1) hz]
  isplitl [H6]
  · iexists _; isplitr; swap; (· iexact H6); ipureintro
    sl_unfold_words
    rw [read_last (S := S32x1) _ hz]
    simp only [View.readAt_eq_ld, e1, e2, e3, e4, e6, e7, View.ld_unit_zero (S := S32x8192) hz, View.ld_unit_zero (S := S32x1) hz, View.readCov_unit_zero (S := S32x1) _ hz]
  · iexists _; isplitr; swap; (· iexact H7); ipureintro
    sl_unfold_words
    rw [read_last (S := S32x1) _ hz]
    simp only [View.readAt_eq_ld, e1, e2, e3, e4, e6, e7, View.ld_unit_zero (S := S32x8192) hz, View.ld_unit_zero (S := S32x1) hz, View.readCov_unit_zero (S := S32x1) _ hz]
    rfl

end Cert.Proof.Pass
-- ==== Proof.Blocks.lean ====
/- The blocks the two kernels see. The last block of a row overhangs the array: its columns from 1000000 on hold whatever
   the staging buffer held. Both bodies mask those columns out, so what they compute from a block depends only on its
   columns inside the array. -/
module

public import proofs.«01_k».proof.Proof.Pass2

@[expose] public section

noncomputable section

namespace Cert.Proof.Pass

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Clip)

variable {F : FTy → Type} [FloatOps F] [Named F]

/-- A block index's two coordinates below the block's sizes. -/
theorem row_lt (j : S32x8192.Idx) : (j 0).val < 32 := (j 0).isLt
theorem col_lt (j : S32x8192.Idx) : (j 1).val < 8192 := (j 1).isLt

/-- Two blocks of point `n` that agree on the columns inside the array. -/
def Agree {α : Type} (n : ℕ) (x x' : S32x8192.Idx → α) : Prop :=
  ∀ j : S32x8192.Idx, 8192 * n + (j 1).val < 1000000 → x j = x' j

/-- Column `j` of block `n`, as the 32-bit word the body computes. -/
theorem col_word (n j : ℕ) (hn : n < 123) (hj : j < 8192) :
    Scalar.addi (Scalar.muli (BitVec.ofNat 32 n) 8192#32) (BitVec.ofNat 32 j) = BitVec.ofNat 32 (8192 * n + j) := by
  unfold Scalar.addi Scalar.muli IntOp.addi IntOp.muli
  apply BitVec.eq_of_toNat_eq
  simp only [BitVec.toNat_add, BitVec.toNat_mul, BitVec.toNat_ofNat]
  omega

/-- The comparison of that word with the array's width, read off the numbers. -/
theorem col_slt (N : ℕ) (hN : N < 1007616) :
    IntOp.cmpi .slt (BitVec.ofNat 32 N) 1000000#32 = if N < 1000000 then 1#1 else 0#1 := by
  have h1 : (BitVec.ofNat 32 N).toInt = N := by
    rw [BitVec.toInt_eq_toNat_cond]; simp only [BitVec.toNat_ofNat]
    rw [Nat.mod_eq_of_lt (by omega)]; rw [if_pos (by omega)]
  unfold IntOp.cmpi
  simp only [BitVec.slt, h1]
  have h2 : (1000000#32 : BitVec 32).toInt = 1000000 := by decide
  rw [h2]
  by_cases h : N < 1000000
  · rw [if_pos h]; simp [h]
  · rw [if_neg h]; simp [h]

/-- The second kernel's column words. -/
theorem pay2_at (i : grid1.Coords) (j : S32x8192.Idx) :
    k1_pay2 i j = BitVec.ofNat 32 (8192 * (i 0).val + (j 1).val) := by
  rw [← col_word (i 0).val (j 1).val (i 0).isLt (col_lt j)]
  show Scalar.addi _ (BitVec.ofNat 32 (0 * 8192 + (j 1).val)) = _
  rw [Nat.zero_mul, Nat.zero_add]; rfl

/-- The second kernel's mask, at an index. -/
theorem valid_at (i : grid1.Coords) (k : Vec F S32x8192 .i32) (j : S32x8192.Idx) :
    k1_pay3 (F := F) i k j = if 8192 * (i 0).val + (j 1).val < 1000000 then IntOp.cmpi .ne (k j) 0#32 else 0#1 := by
  have h : k1_pay3 (F := F) i k j = IntOp.andi (IntOp.cmpi .ne (k j) 0#32) (IntOp.cmpi .slt (k1_pay2 i j) 1000000#32) := rfl
  have hi : (i 0).val < 123 := (i 0).isLt
  have hj := col_lt j
  rw [h, pay2_at, col_slt _ (by omega)]
  split
  · show _ &&& 1#1 = _
    generalize IntOp.cmpi .ne (k j) 0#32 = b; revert b; decide
  · show _ &&& 0#1 = _
    generalize IntOp.cmpi .ne (k j) 0#32 = b; revert b; decide

theorem valid_congr (i : grid1.Coords) {k k' : Vec F S32x8192 .i32} (h : Agree (i 0).val k k') :
    k1_pay3 (F := F) i k = k1_pay3 (F := F) i k' := by
  funext j; rw [valid_at, valid_at]; split
  · next hj => rw [h j hj]
  · rfl

/-- The first kernel's masked logits are the second's. -/
theorem masked_eq (i : grid0.Coords) (x : Vec F S32x8192 .f32) (k : Vec F S32x8192 .i32) :
    k0_pay3 i x k = select (k1_pay3 (F := F) i k) x
      (subf (broadcast S32x8192 (Scalar.ofBits .f32 0x00000000#32))
        (broadcast S32x8192 (Named.named Cert.KernelIdeal.κ "largest" 0x7F7FFFFF#32))) := rfl

theorem masked_congr (i : grid1.Coords) (z : FVec F S32x8192 .f32) {x x' : Vec F S32x8192 .f32} {k k' : Vec F S32x8192 .i32}
    (hx : Agree (i 0).val x x') (hk : Agree (i 0).val k k') :
    select (k1_pay3 (F := F) i k) x z = select (k1_pay3 (F := F) i k') x' z := by
  rw [valid_congr i hk]
  funext j
  show Scalar.select (k1_pay3 (F := F) i k' j) (x j) (z j) = Scalar.select (k1_pay3 (F := F) i k' j) (x' j) (z j)
  by_cases hj : 8192 * (i 0).val + (j 1).val < 1000000
  · rw [hx j hj]
  · rw [valid_at, if_neg hj]; rfl

theorem pay3_congr (i : grid0.Coords) {x x' : Vec F S32x8192 .f32} {k k' : Vec F S32x8192 .i32}
    (hx : Agree (i 0).val x x') (hk : Agree (i 0).val k k') : k0_pay3 i x k = k0_pay3 i x' k' := by
  rw [masked_eq, masked_eq]; exact masked_congr i _ hx hk

theorem pay5_congr (i : grid0.Coords) {x x' : Vec F S32x8192 .f32} {k k' : Vec F S32x8192 .i32}
    (hx : Agree (i 0).val x x') (hk : Agree (i 0).val k k') (m : Vec F S32x1 .f32) : k0_pay5 i x k m = k0_pay5 i x' k' m := by
  unfold k0_pay5; rw [pay3_congr i hx hk]

theorem pay6_congr (i : grid0.Coords) {x x' : Vec F S32x8192 .f32} {k k' : Vec F S32x8192 .i32}
    (hx : Agree (i 0).val x x') (hk : Agree (i 0).val k k') (m s : Vec F S32x1 .f32) :
    k0_pay6 i x k m s = k0_pay6 i x' k' m s := by
  unfold k0_pay6; rw [pay3_congr i hx hk, pay5_congr i hx hk]

theorem norm_congr (i : grid1.Coords) {x x' : Vec F S32x8192 .f32} {k k' : Vec F S32x8192 .i32}
    (hx : Agree (i 0).val x x') (hk : Agree (i 0).val k k') (m s : Vec F S32x1 .f32) :
    k1_pay4 i m s x k = k1_pay4 i m s x' k' := by
  unfold k1_pay4; dsimp only; rw [masked_congr i _ hx hk]

theorem prob_congr (i : grid1.Coords) {x x' : Vec F S32x8192 .f32} {k k' : Vec F S32x8192 .i32}
    (hx : Agree (i 0).val x x') (hk : Agree (i 0).val k k') (m s : Vec F S32x1 .f32) :
    k1_pay5 i m s x k = k1_pay5 i m s x' k' := by
  unfold k1_pay5; rw [norm_congr i hx hk]

theorem newAct_congr (i : grid1.Coords) {x x' : Vec F S32x8192 .f32} {k k' : Vec F S32x8192 .i32}
    (hx : Agree (i 0).val x x') (hk : Agree (i 0).val k k') (m s r : Vec F S32x1 .f32) (a : Vec F S32x1 .i32) :
    newAct i x k m s r a = newAct i x' k' m s r a := by
  unfold newAct; rw [valid_congr i hk, norm_congr i hx hk]

theorem newMax_congr (i : grid1.Coords) {x x' : Vec F S32x8192 .f32} {k k' : Vec F S32x8192 .i32}
    (hx : Agree (i 0).val x x') (hk : Agree (i 0).val k k') (m s r : Vec F S32x1 .f32) :
    newMax i x k m s r = newMax i x' k' m s r := by
  unfold newMax; rw [valid_congr i hk, norm_congr i hx hk]

/-! ## The part of a block a transfer moves -/

/-- The grids have one axis: a point's coordinate is its number. -/
theorem coord0 : ∀ t : Fin cfg0.N, (grid0.coords t 0).val = t.val := by decide
theorem coord1 : ∀ t : Fin cfg1.N, (grid1.coords t 0).val = t.val := by decide

/-- The words of the index maps are the point's coordinate. -/
theorem ofNat_toNat (i : grid0.Coords) : (BitVec.ofNat 32 (i 0).val).toNat = (i 0).val := by
  have : (i 0).val < 123 := (i 0).isLt
  rw [BitVec.toNat_ofNat]; omega

theorem clip_rows (j : ℕ) : (Clip.of 0 32 32).mem j = true := rfl

theorem clip_cols (n j : ℕ) (hj : j < 8192) : (Clip.of n 8192 1000000).mem j = true ↔ 8192 * n + j < 1000000 := by
  unfold Clip.of; split
  · next h => exact ⟨fun _ => by omega, fun _ => rfl⟩
  · next h =>
    show decide (j < 1000000 - n * 8192) = true ↔ _
    rw [decide_eq_true_iff]; omega

/-- A block index is moved exactly when its column lies inside the array. -/
theorem moved_of (i : grid0.Coords) (j : S32x8192.Idx) : win0_0.moved i j = true ↔ 8192 * (i 0).val + (j 1).val < 1000000 := by
  have h : win0_0.moved i j = true ↔ ∀ a : Fin 2, (win0_0.clip i a).mem (j a).val = true := Pipeline.allAxes_eq_true_iff
  have hj := col_lt j
  rw [h, Fin.forall_fin_two]
  show (Clip.of 0 32 32).mem (j 0).val = true ∧ (Clip.of (BitVec.ofNat 32 (i 0).val).toNat 8192 1000000).mem (j 1).val = true ↔ _
  rw [clip_rows, clip_cols _ _ hj, ofNat_toNat]
  exact ⟨fun h => h.2, fun h => ⟨rfl, h⟩⟩

/-- Filling over two different buffers gives blocks that agree inside the array. -/
theorem fill_agree {α : Type} (i : grid0.Coords) (d d' : S32x8192.Idx → α) (g : (win0_0.xblock i).Idx → α) :
    Agree (i 0).val (win0_0.fill i d g) (win0_0.fill i d' g) := by
  intro j hj
  have hm := (moved_of i j).mpr hj
  unfold Window.fill; rw [dif_pos hm, dif_pos hm]

end Cert.Proof.Pass

end
-- ==== Proof.Region0.lean ====
/- The first kernel as a pipeline: what its staging buffers hold at each point, from any contents of the arrays, and the
   region it makes in the program. -/
module

public import proofs.«01_k».proof.Proof.Blocks
public import proofs.«01_k».proof.Proof.Gen.KernelIdeal.Regions
public import proofs.«01_k».proof.Proof.Gen.KernelIdeal.Points
public import Idealize.ShloMosaic.Lib.Pipeline.FrameBody

@[expose] public section

noncomputable section

namespace Cert.Proof.Pass

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

local notation "𝕄" => MT nD τ sig Unit (Elt F) ℕ UU ℕ

/-- A column block of a wide array: the part of point `t`'s block inside the array, zero past its end. -/
def block {e : EltTy} (z : Elt F e) (i : grid0.Coords) (g : (win0_0.xblock i).Idx → Elt F e) : S32x8192.Idx → Elt F e :=
  win0_0.fill i (fun _ => z) g

/-- The running maximum and the rescaled sum after point `n`, over the points' blocks. -/
def stats (X : Fin cfg0.N → Vec F S32x8192 .f32) (K : Fin cfg0.N → Vec F S32x8192 .i32) :
    (n : ℕ) → n < cfg0.N → Vec F S32x1 .f32 × Vec F S32x1 .f32
  | 0, h => (k0_pay5 (grid0.coords ⟨0, h⟩) (X ⟨0, h⟩) (K ⟨0, h⟩) k0_pay1,
      k0_pay6 (grid0.coords ⟨0, h⟩) (X ⟨0, h⟩) (K ⟨0, h⟩) k0_pay1 k0_pay2)
  | n + 1, h =>
    let p := stats X K n (Nat.lt_of_succ_lt h)
    (k0_pay5 (grid0.coords ⟨n + 1, h⟩) (X ⟨n + 1, h⟩) (K ⟨n + 1, h⟩) p.1,
      k0_pay6 (grid0.coords ⟨n + 1, h⟩) (X ⟨n + 1, h⟩) (K ⟨n + 1, h⟩) p.1 p.2)

variable (V : (c : Dev nD) → (b : Ref sig .tc) → Buf (Elt F) ((c : Thread nD τ).loc b))

/-- The logits' and the mask's blocks of point `t`. -/
def xcut (c : Dev nD) (t : Fin cfg0.N) : (win0_0.xblock (grid0.coords t)).Idx → Elt F .f32 :=
  (win0_0.blk t).view.read (Elt F) (V c main_arg0)
def kcut (c : Dev nD) (t : Fin cfg0.N) : (win0_0.xblock (grid0.coords t)).Idx → Elt F .i32 :=
  (win0_1.blk t).view.read (Elt F) (V c main_v0)
def xblk (c : Dev nD) (t : Fin cfg0.N) : Vec F S32x8192 .f32 :=
  block (e := .f32) (Scalar.ofBits .f32 0#32) (grid0.coords t) (xcut V c t)
def kblk (c : Dev nD) (t : Fin cfg0.N) : Vec F S32x8192 .i32 :=
  block (F := F) (e := .i32) (0#32 : BitVec 32) (grid0.coords t) (kcut V c t)

/-- The first pipeline's proof data, from contents `V`. -/
def dat0 (c : Dev nD) : Dat τ (Elt F) Unit ℕ UU ℕ cfg0 c where
  A w := V c (Pipeline.arrRef spec0 w)
  after w t := match w with
    | ⟨0, _⟩ => xblk V c t
    | ⟨1, _⟩ => kblk V c t
    | ⟨2, _⟩ => (stats (xblk V c) (kblk V c) t.val t.isLt).1
    | ⟨3, _⟩ => (stats (xblk V c) (kblk V c) t.val t.isLt).2
  Φ _ := Pipeline.scopedRest (Ix := Unit) (Name := ℕ) (U := UU) (Lvl := ℕ) (Val := Elt F) spec0 c
  q _ := fullShare
  owed _ := 0

theorem before0_0 (c : Dev nD) (t : Fin cfg0.N) (d) :
    (dat0 V c).before (0 : Fin 4) t d = win0_0.fill (grid0.coords t) d (xcut V c t) := by
  rw [(dat0 V c).before_fetched 0 t (fetch0_0 t)]; rfl
theorem before0_1 (c : Dev nD) (t : Fin cfg0.N) (d) :
    (dat0 V c).before (1 : Fin 4) t d = win0_0.fill (grid0.coords t) d (kcut V c t) := by
  rw [(dat0 V c).before_fetched 1 t (fetch0_1 t)]; rfl

/-- No point but the last writes an accumulator back. -/
theorem pred_not_last (t : Fin cfg0.N) (ht : t.val ≠ 0) : ¬ ((t.val - 1) % 123 = 122) := by
  have : t.val < 123 := t.isLt
  omega

theorem before0_2 (c : Dev nD) (t : Fin cfg0.N) (ht : t.val ≠ 0) (d) :
    (dat0 V c).before (2 : Fin 4) t d = (stats (xblk V c) (kblk V c) (t.val - 1) (Nat.lt_of_le_of_lt (Nat.sub_le _ _) t.isLt)).1 :=
  (dat0 V c).before_out_kept 2 rfl t ht (Bool.eq_false_iff.mpr fun h => pred_not_last t ht ((flush0_2 _).mp h))
    (fun _ => rfl) (fun _ _ => rfl) d
theorem before0_3 (c : Dev nD) (t : Fin cfg0.N) (ht : t.val ≠ 0) (d) :
    (dat0 V c).before (3 : Fin 4) t d = (stats (xblk V c) (kblk V c) (t.val - 1) (Nat.lt_of_le_of_lt (Nat.sub_le _ _) t.isLt)).2 :=
  (dat0 V c).before_out_kept 3 rfl t ht (Bool.eq_false_iff.mpr fun h => pred_not_last t ht ((flush0_3 _).mp h))
    (fun _ => rfl) (fun _ _ => rfl) d

/-- The statistics at a later point, from the point before. -/
theorem stats_pred (X : Fin cfg0.N → Vec F S32x8192 .f32) (K : Fin cfg0.N → Vec F S32x8192 .i32) (t : Fin cfg0.N)
    (ht : t.val ≠ 0) :
    stats X K t.val t.isLt
      = (k0_pay5 (grid0.coords t) (X t) (K t) (stats X K (t.val - 1) (Nat.lt_of_le_of_lt (Nat.sub_le _ _) t.isLt)).1,
        k0_pay6 (grid0.coords t) (X t) (K t) (stats X K (t.val - 1) (Nat.lt_of_le_of_lt (Nat.sub_le _ _) t.isLt)).1
          (stats X K (t.val - 1) (Nat.lt_of_le_of_lt (Nat.sub_le _ _) t.isLt)).2) := by
  obtain ⟨n, hn⟩ := t
  cases n with
  | zero => exact absurd rfl ht
  | succ n => rfl

theorem stats_zero (X : Fin cfg0.N → Vec F S32x8192 .f32) (K : Fin cfg0.N → Vec F S32x8192 .i32) (t : Fin cfg0.N)
    (ht : t.val = 0) :
    stats X K t.val t.isLt
      = (k0_pay5 (grid0.coords t) (X t) (K t) k0_pay1, k0_pay6 (grid0.coords t) (X t) (K t) k0_pay1 k0_pay2) := by
  obtain ⟨n, hn⟩ := t
  obtain rfl : n = 0 := ht
  rfl

/-- The body at each point. -/
theorem body_obligation0 (c : Dev nD) : BodyObligationLoose (dat0 V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩⟩
  rw [before0_0 V c t d0, before0_1 V c t d1]
  have hx : win0_0.cut (grid0.coords t) (xblk V c t) = xcut V c t := win0_0.cut_fill _ _ _
  have hk : win0_0.cut (grid0.coords t) (kblk V c t) = kcut V c t := win0_0.cut_fill _ _ _
  have ax : Agree (grid0.coords t 0).val (win0_0.fill (grid0.coords t) d0 (xcut V c t)) (xblk V c t) := fill_agree _ _ _ _
  have ak : Agree (grid0.coords t 0).val (win0_0.fill (grid0.coords t) d1 (kcut V c t)) (kblk V c t) := fill_agree _ _ _ _
  by_cases ht : t.val = 0
  · iapply (pass1_first (F := F) c (grid0.coords t) ((first_iff _).mpr ((coord0 t).trans ht))
      (stage0_0 (cfg0.slots t 0)) (hstage0_0 _) (stage0_1 (cfg0.slots t 1)) (hstage0_1 _)
      (stage0_2 (cfg0.slots t 2)) (hstage0_2 _) (stage0_3 (cfg0.slots t 3)) (hstage0_3 _)
      (win0_0.fill (grid0.coords t) d0 (xcut V c t)) (win0_0.fill (grid0.coords t) d1 (kcut V c t))
      ((dat0 V c).before (2 : Fin 4) t d2) ((dat0 V c).before (3 : Fin 4) t d3) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]
    · iexists d0
      change _ ⊢ owns (c : Thread nD τ) (stage0_0 (cfg0.slots t 0)) fullShare (win0_0.fill (grid0.coords t) d0 (win0_0.cut (grid0.coords t) (xblk V c t)))
      rw [hx]; try iexact H0
    isplitl [H1]
    · iexists d1
      change _ ⊢ owns (c : Thread nD τ) (stage0_1 (cfg0.slots t 1)) fullShare (win0_0.fill (grid0.coords t) d1 (win0_0.cut (grid0.coords t) (kblk V c t)))
      rw [hk]; try iexact H1
    isplitl [H2]
    · change _ ⊢ owns (c : Thread nD τ) (stage0_2 (cfg0.slots t 2)) fullShare (stats (xblk V c) (kblk V c) t.val t.isLt).1
      rw [stats_zero _ _ t ht, pay5_congr _ ax ak]; try iexact H2
    · change _ ⊢ owns (c : Thread nD τ) (stage0_3 (cfg0.slots t 3)) fullShare (stats (xblk V c) (kblk V c) t.val t.isLt).2
      rw [stats_zero _ _ t ht, pay6_congr _ ax ak]; try iexact H3
  · rw [before0_2 V c t ht, before0_3 V c t ht]
    iapply (pass1_next (F := F) c (grid0.coords t) (fun h => ht ((coord0 t).symm.trans ((first_iff _).mp h)))
      (stage0_0 (cfg0.slots t 0)) (hstage0_0 _) (stage0_1 (cfg0.slots t 1)) (hstage0_1 _)
      (stage0_2 (cfg0.slots t 2)) (hstage0_2 _) (stage0_3 (cfg0.slots t 3)) (hstage0_3 _)
      (win0_0.fill (grid0.coords t) d0 (xcut V c t)) (win0_0.fill (grid0.coords t) d1 (kcut V c t))
      (stats (xblk V c) (kblk V c) (t.val - 1) (Nat.lt_of_le_of_lt (Nat.sub_le _ _) t.isLt)).1
      (stats (xblk V c) (kblk V c) (t.val - 1) (Nat.lt_of_le_of_lt (Nat.sub_le _ _) t.isLt)).2 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]
    · iexists d0
      change _ ⊢ owns (c : Thread nD τ) (stage0_0 (cfg0.slots t 0)) fullShare (win0_0.fill (grid0.coords t) d0 (win0_0.cut (grid0.coords t) (xblk V c t)))
      rw [hx]; try iexact H0
    isplitl [H1]
    · iexists d1
      change _ ⊢ owns (c : Thread nD τ) (stage0_1 (cfg0.slots t 1)) fullShare (win0_0.fill (grid0.coords t) d1 (win0_0.cut (grid0.coords t) (kblk V c t)))
      rw [hk]; try iexact H1
    isplitl [H2]
    · change _ ⊢ owns (c : Thread nD τ) (stage0_2 (cfg0.slots t 2)) fullShare (stats (xblk V c) (kblk V c) t.val t.isLt).1
      rw [stats_pred _ _ t ht, pay5_congr _ ax ak]; try iexact H2
    · change _ ⊢ owns (c : Thread nD τ) (stage0_3 (cfg0.slots t 3)) fullShare (stats (xblk V c) (kblk V c) t.val t.isLt).2
      rw [stats_pred _ _ t ht, pay6_congr _ ax ak]; try iexact H3

end Cert.Proof.Pass

end
-- ==== Proof.Region1.lean ====
/- The second kernel as a pipeline: what its staging buffers and its scratch buffer hold at each point, from any contents of
   the arrays. -/
module

public import proofs.«01_k».proof.Proof.Region0

@[expose] public section

noncomputable section

namespace Cert.Proof.Pass

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

local notation "𝕄" => MT nD τ sig Unit (Elt F) ℕ UU ℕ

/-- The running maximum of the drawn scores and the action that reached it, after point `n`. -/
def best (M S : Vec F S32x1 .f32) (X : Fin cfg1.N → Vec F S32x8192 .f32) (K : Fin cfg1.N → Vec F S32x8192 .i32) :
    (n : ℕ) → n < cfg1.N → Vec F S32x1 .f32 × Vec F S32x1 .i32
  | 0, h => (newMax (grid1.coords ⟨0, h⟩) (X ⟨0, h⟩) (K ⟨0, h⟩) M S k1_pay49,
      newAct (grid1.coords ⟨0, h⟩) (X ⟨0, h⟩) (K ⟨0, h⟩) M S k1_pay49 k1_pay50)
  | n + 1, h =>
    let p := best M S X K n (Nat.lt_of_succ_lt h)
    (newMax (grid1.coords ⟨n + 1, h⟩) (X ⟨n + 1, h⟩) (K ⟨n + 1, h⟩) M S p.1,
      newAct (grid1.coords ⟨n + 1, h⟩) (X ⟨n + 1, h⟩) (K ⟨n + 1, h⟩) M S p.1 p.2)

variable (V : (c : Dev nD) → (b : Ref sig .tc) → Buf (Elt F) ((c : Thread nD τ).loc b))

/-- The first point. -/
def pt0 : Fin cfg1.N := ⟨0, by decide⟩

/-- The logits' and the mask's blocks of point `t`, and the two statistics. -/
def xcut1 (c : Dev nD) (t : Fin cfg1.N) : (win1_0.xblock (grid1.coords t)).Idx → Elt F .f32 :=
  (win1_0.blk t).view.read (Elt F) (V c main_arg0)
def kcut1 (c : Dev nD) (t : Fin cfg1.N) : (win1_0.xblock (grid1.coords t)).Idx → Elt F .i32 :=
  (win1_1.blk t).view.read (Elt F) (V c main_v2)
def xblk1 (c : Dev nD) (t : Fin cfg1.N) : Vec F S32x8192 .f32 :=
  block (e := .f32) (Scalar.ofBits .f32 0#32) (grid1.coords t) (xcut1 V c t)
def kblk1 (c : Dev nD) (t : Fin cfg1.N) : Vec F S32x8192 .i32 :=
  block (F := F) (e := .i32) (0#32 : BitVec 32) (grid1.coords t) (kcut1 V c t)
def mrow (c : Dev nD) : Vec F S32x1 .f32 := (win1_2.blk pt0).view.read (Elt F) (V c main_v1_0)
def srow (c : Dev nD) : Vec F S32x1 .f32 := (win1_3.blk pt0).view.read (Elt F) (V c main_v1_1)

/-- The accumulators after point `n`. -/
abbrev bestAt (c : Dev nD) (n : ℕ) (h : n < cfg1.N) : Vec F S32x1 .f32 × Vec F S32x1 .i32 :=
  best (mrow V c) (srow V c) (xblk1 V c) (kblk1 V c) n h

/-- The probabilities' block of point `t`. -/
def pblk (c : Dev nD) (t : Fin cfg1.N) : Vec F S32x8192 .f32 :=
  k1_pay5 (grid1.coords t) (mrow V c) (srow V c) (xblk1 V c t) (kblk1 V c t)

/-- The other kernel's staging buffers, held at anything. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f))

/-- The scratch buffer before point `n`: anything at first, then the running maximum so far. -/
def scr (c : Dev nD) : (n : ℕ) → n < cfg1.N + 1 → sProp 𝕄
  | 0, _ => iprop(∃ f : Vec F S32x1 .f32, owns (c : Thread nD τ) (Memref.whole cc1_scratch0) fullShare f)
  | n + 1, h => owns (c : Thread nD τ) (Memref.whole cc1_scratch0) fullShare (bestAt V c n (Nat.lt_of_succ_lt_succ h)).1

/-- The second pipeline's proof data, from contents `V`. -/
def dat1 (c : Dev nD) : Dat τ (Elt F) Unit ℕ UU ℕ cfg1 c where
  A w := V c (Pipeline.arrRef spec1 w)
  after w t := match w with
    | ⟨0, _⟩ => xblk1 V c t
    | ⟨1, _⟩ => kblk1 V c t
    | ⟨2, _⟩ => mrow V c
    | ⟨3, _⟩ => srow V c
    | ⟨4, _⟩ => pblk V c t
    | ⟨5, _⟩ => (bestAt V c t.val t.isLt).2
  Φ n := iprop(rest1 c ∗ scr V c n.val n.isLt)
  q _ := fullShare
  owed _ := 0

theorem before1_0 (c : Dev nD) (t : Fin cfg1.N) (d) :
    (dat1 V c).before (0 : Fin 6) t d = win0_0.fill (grid1.coords t) d (xcut1 V c t) := by
  rw [(dat1 V c).before_fetched 0 t (fetch1_0 t)]; rfl
theorem before1_1 (c : Dev nD) (t : Fin cfg1.N) (d) :
    (dat1 V c).before (1 : Fin 6) t d = win0_0.fill (grid1.coords t) d (kcut1 V c t) := by
  rw [(dat1 V c).before_fetched 1 t (fetch1_1 t)]; rfl
theorem before1_2 (c : Dev nD) (t : Fin cfg1.N) (d) : (dat1 V c).before (2 : Fin 6) t d = mrow V c :=
  ((dat1 V c).before_in_eq_fetched 2 rfl (fun _ => rfl) (fun _ _ _ => rfl) (fun _ => rfl) t d).trans rfl
theorem before1_3 (c : Dev nD) (t : Fin cfg1.N) (d) : (dat1 V c).before (3 : Fin 6) t d = srow V c :=
  ((dat1 V c).before_in_eq_fetched 3 rfl (fun _ => rfl) (fun _ _ _ => rfl) (fun _ => rfl) t d).trans rfl

theorem before1_5 (c : Dev nD) (t : Fin cfg1.N) (ht : t.val ≠ 0) (d) :
    (dat1 V c).before (5 : Fin 6) t d = (bestAt V c (t.val - 1) (Nat.lt_of_le_of_lt (Nat.sub_le _ _) t.isLt)).2 :=
  (dat1 V c).before_out_kept 5 rfl t ht (Bool.eq_false_iff.mpr fun h => pred_not_last t ht ((flush1_5 _).mp h))
    (fun _ => rfl) (fun _ _ => rfl) d

theorem best_pred (M S : Vec F S32x1 .f32) (X : Fin cfg1.N → Vec F S32x8192 .f32) (K : Fin cfg1.N → Vec F S32x8192 .i32)
    (t : Fin cfg1.N) (ht : t.val ≠ 0) :
    best M S X K t.val t.isLt
      = (newMax (grid1.coords t) (X t) (K t) M S (best M S X K (t.val - 1) (Nat.lt_of_le_of_lt (Nat.sub_le _ _) t.isLt)).1,
        newAct (grid1.coords t) (X t) (K t) M S (best M S X K (t.val - 1) (Nat.lt_of_le_of_lt (Nat.sub_le _ _) t.isLt)).1
          (best M S X K (t.val - 1) (Nat.lt_of_le_of_lt (Nat.sub_le _ _) t.isLt)).2) := by
  obtain ⟨n, hn⟩ := t
  cases n with
  | zero => exact absurd rfl ht
  | succ n => rfl

theorem best_zero (M S : Vec F S32x1 .f32) (X : Fin cfg1.N → Vec F S32x8192 .f32) (K : Fin cfg1.N → Vec F S32x8192 .i32)
    (t : Fin cfg1.N) (ht : t.val = 0) :
    best M S X K t.val t.isLt
      = (newMax (grid1.coords t) (X t) (K t) M S k1_pay49, newAct (grid1.coords t) (X t) (K t) M S k1_pay49 k1_pay50) := by
  obtain ⟨n, hn⟩ := t
  obtain rfl : n = 0 := ht
  rfl

/-- The scratch buffer before the first point and before a later one. -/
theorem scr_zero (c : Dev nD) (t : Fin cfg1.N) (ht : t.val = 0) (h) :
    scr V c t.val h = iprop(∃ f : Vec F S32x1 .f32, owns (c : Thread nD τ) (Memref.whole cc1_scratch0) fullShare f) := by
  obtain ⟨n, hn⟩ := t
  obtain rfl : n = 0 := ht
  rfl
theorem scr_pred (c : Dev nD) (t : Fin cfg1.N) (ht : t.val ≠ 0) (h) :
    scr V c t.val h = owns (c : Thread nD τ) (Memref.whole cc1_scratch0) fullShare
      (bestAt V c (t.val - 1) (Nat.lt_of_le_of_lt (Nat.sub_le _ _) t.isLt)).1 := by
  obtain ⟨n, hn⟩ := t
  cases n with
  | zero => exact absurd rfl ht
  | succ n => rfl

/-- What the body leaves at point `t` makes the obligation's end, whatever it found in the padding. -/
theorem end1 (c : Dev nD) (t : Fin cfg1.N) (d0 : Vec F S32x8192 .f32) (d1 : Vec F S32x8192 .i32)
    (r : Vec F S32x1 .f32) (a : Vec F S32x1 .i32)
    (hr : newMax (grid1.coords t) (xblk1 V c t) (kblk1 V c t) (mrow V c) (srow V c) r = (bestAt V c t.val t.isLt).1)
    (ha : newAct (grid1.coords t) (xblk1 V c t) (kblk1 V c t) (mrow V c) (srow V c) r a = (bestAt V c t.val t.isLt).2) :
    newMax (grid1.coords t) (win0_0.fill (grid1.coords t) d0 (xcut1 V c t)) (win0_0.fill (grid1.coords t) d1 (kcut1 V c t))
        (mrow V c) (srow V c) r = (bestAt V c t.val t.isLt).1
    ∧ newAct (grid1.coords t) (win0_0.fill (grid1.coords t) d0 (xcut1 V c t)) (win0_0.fill (grid1.coords t) d1 (kcut1 V c t))
        (mrow V c) (srow V c) r a = (bestAt V c t.val t.isLt).2
    ∧ k1_pay5 (grid1.coords t) (mrow V c) (srow V c) (win0_0.fill (grid1.coords t) d0 (xcut1 V c t))
        (win0_0.fill (grid1.coords t) d1 (kcut1 V c t)) = pblk V c t := by
  have ax : Agree (grid1.coords t 0).val (win0_0.fill (grid1.coords t) d0 (xcut1 V c t)) (xblk1 V c t) := fill_agree _ _ _ _
  have ak : Agree (grid1.coords t 0).val (win0_0.fill (grid1.coords t) d1 (kcut1 V c t)) (kblk1 V c t) := fill_agree _ _ _ _
  exact ⟨(newMax_congr _ ax ak _ _ _).trans hr, (newAct_congr _ ax ak _ _ _ _).trans ha, prob_congr _ ax ak _ _⟩

/-- The body at each point. -/
theorem body_obligation1 (c : Dev nD) : BodyObligationLoose (dat1 V c) (defs₀ (F := F)) Variants.none () Set.univ := fun t => by
  rw [bigSep_W1, bigSep_W1]
  simp only
  rw [show (dat1 V c).Φ t.succ = iprop(rest1 c ∗ owns (c : Thread nD τ) (Memref.whole cc1_scratch0) fullShare (bestAt V c t.val t.isLt).1) from rfl,
    show (dat1 V c).Φ t.castSucc = iprop(rest1 c ∗ scr V c t.val (Nat.lt_succ_of_lt t.isLt)) from rfl,
    show (dat1 V c).owesAt () t.succ = (dat1 V c).owesAt () t.castSucc from rfl]
  have hx : win0_0.cut (grid1.coords t) (xblk1 V c t) = xcut1 V c t := win0_0.cut_fill _ _ _
  have hk : win0_0.cut (grid1.coords t) (kblk1 V c t) = kcut1 V c t := win0_0.cut_fill _ _ _
  by_cases ht : t.val = 0
  · rw [scr_zero V c t ht]
    iintro ⟨⟨HΦ, ⟨%r, Hscr⟩⟩, Ho, ⟨%d0, H0⟩, ⟨%d1, H1⟩, ⟨%d2, H2⟩, ⟨%d3, H3⟩, ⟨%d4, H4⟩, ⟨%d5, H5⟩⟩
    rw [before1_0 V c t d0, before1_1 V c t d1, before1_2 V c t d2, before1_3 V c t d3]
    obtain ⟨er, ea, ep⟩ := end1 V c t d0 d1 k1_pay49 k1_pay50 (by rw [bestAt, best_zero _ _ _ _ t ht]) (by rw [bestAt, best_zero _ _ _ _ t ht])
    iapply (pass2_first (F := F) c (grid1.coords t) ((first_iff _).mpr ((coord1 t).trans ht))
      (stage1_0 (cfg1.slots t 0)) (hstage1_0 _) (stage1_1 (cfg1.slots t 1)) (hstage1_1 _)
      (stage1_2 (cfg1.slots t 2)) (hstage1_2 _) (stage1_3 (cfg1.slots t 3)) (hstage1_3 _)
      (stage1_4 (cfg1.slots t 4)) (hstage1_4 _) (stage1_5 (cfg1.slots t 5)) (hstage1_5 _)
      (Memref.whole cc1_scratch0) (Memref.isWhole_whole _)
      (win0_0.fill (grid1.coords t) d0 (xcut1 V c t)) (win0_0.fill (grid1.coords t) d1 (kcut1 V c t))
      (mrow V c) (srow V c) ((dat1 V c).before (4 : Fin 6) t d4) ((dat1 V c).before (5 : Fin 6) t d5) r Set.univ _)
    isplitl [H0]; · iexact H0
    isplitl [H1]; · iexact H1
    isplitl [H2]; · iexact H2
    isplitl [H3]; · iexact H3
    isplitl [H4]; · iexact H4
    isplitl [H5]; · iexact H5
    isplitl [Hscr]; · iexact Hscr
    rw [er, ea, ep]
    iintro ⟨H0, H1, H2, H3, H4, H5, H6⟩
    isplitl [HΦ H6]
    · isplitl [HΦ]; · iexact HΦ
      iexact H6
    isplitl [Ho]; · iexact Ho
    isplitl [H0]
    · iexists d0
      change _ ⊢ owns (c : Thread nD τ) (stage1_0 (cfg1.slots t 0)) fullShare (win0_0.fill (grid1.coords t) d0 (win0_0.cut (grid1.coords t) (xblk1 V c t)))
      rw [hx]; try iexact H0
    isplitl [H1]
    · iexists d1
      change _ ⊢ owns (c : Thread nD τ) (stage1_1 (cfg1.slots t 1)) fullShare (win0_0.fill (grid1.coords t) d1 (win0_0.cut (grid1.coords t) (kblk1 V c t)))
      rw [hk]; try iexact H1
    isplitl [H2]; · iexact H2
    isplitl [H3]; · iexact H3
    isplitl [H4]
    · iexists (pblk V c t)
      change _ ⊢ owns (c : Thread nD τ) (stage1_4 (cfg1.slots t 4)) fullShare (win1_4.fill (grid1.coords t) (pblk V c t) (win1_4.cut (grid1.coords t) (pblk V c t)))
      rw [win1_4.fill_cut]; try iexact H4
    iexact H5
  · rw [scr_pred V c t ht]
    iintro ⟨⟨HΦ, Hscr⟩, Ho, ⟨%d0, H0⟩, ⟨%d1, H1⟩, ⟨%d2, H2⟩, ⟨%d3, H3⟩, ⟨%d4, H4⟩, ⟨%d5, H5⟩⟩
    rw [before1_0 V c t d0, before1_1 V c t d1, before1_2 V c t d2, before1_3 V c t d3]
    rw [before1_5 V c t ht]
    obtain ⟨er, ea, ep⟩ := end1 V c t d0 d1 (bestAt V c (t.val - 1) (Nat.lt_of_le_of_lt (Nat.sub_le _ _) t.isLt)).1
      (bestAt V c (t.val - 1) (Nat.lt_of_le_of_lt (Nat.sub_le _ _) t.isLt)).2
      (by rw [show bestAt V c t.val t.isLt = _ from best_pred _ _ _ _ t ht]) (by rw [show bestAt V c t.val t.isLt = _ from best_pred _ _ _ _ t ht])
    iapply (pass2_next (F := F) c (grid1.coords t) (fun h => ht ((coord1 t).symm.trans ((first_iff _).mp h)))
      (stage1_0 (cfg1.slots t 0)) (hstage1_0 _) (stage1_1 (cfg1.slots t 1)) (hstage1_1 _)
      (stage1_2 (cfg1.slots t 2)) (hstage1_2 _) (stage1_3 (cfg1.slots t 3)) (hstage1_3 _)
      (stage1_4 (cfg1.slots t 4)) (hstage1_4 _) (stage1_5 (cfg1.slots t 5)) (hstage1_5 _)
      (Memref.whole cc1_scratch0) (Memref.isWhole_whole _)
      (win0_0.fill (grid1.coords t) d0 (xcut1 V c t)) (win0_0.fill (grid1.coords t) d1 (kcut1 V c t))
      (mrow V c) (srow V c) ((dat1 V c).before (4 : Fin 6) t d4)
      (bestAt V c (t.val - 1) (Nat.lt_of_le_of_lt (Nat.sub_le _ _) t.isLt)).2
      (bestAt V c (t.val - 1) (Nat.lt_of_le_of_lt (Nat.sub_le _ _) t.isLt)).1 Set.univ _)
    isplitl [H0]; · iexact H0
    isplitl [H1]; · iexact H1
    isplitl [H2]; · iexact H2
    isplitl [H3]; · iexact H3
    isplitl [H4]; · iexact H4
    isplitl [H5]; · iexact H5
    isplitl [Hscr]; · iexact Hscr
    rw [er, ea, ep]
    iintro ⟨H0, H1, H2, H3, H4, H5, H6⟩
    isplitl [HΦ H6]
    · isplitl [HΦ]; · iexact HΦ
      iexact H6
    isplitl [Ho]; · iexact Ho
    isplitl [H0]
    · iexists d0
      change _ ⊢ owns (c : Thread nD τ) (stage1_0 (cfg1.slots t 0)) fullShare (win0_0.fill (grid1.coords t) d0 (win0_0.cut (grid1.coords t) (xblk1 V c t)))
      rw [hx]; try iexact H0
    isplitl [H1]
    · iexists d1
      change _ ⊢ owns (c : Thread nD τ) (stage1_1 (cfg1.slots t 1)) fullShare (win0_0.fill (grid1.coords t) d1 (win0_0.cut (grid1.coords t) (kblk1 V c t)))
      rw [hk]; try iexact H1
    isplitl [H2]; · iexact H2
    isplitl [H3]; · iexact H3
    isplitl [H4]
    · iexists (pblk V c t)
      change _ ⊢ owns (c : Thread nD τ) (stage1_4 (cfg1.slots t 4)) fullShare (win1_4.fill (grid1.coords t) (pblk V c t) (win1_4.cut (grid1.coords t) (pblk V c t)))
      rw [win1_4.fill_cut]; try iexact H4
    iexact H5

end Cert.Proof.Pass

end
-- ==== Proof.Regs.lean ====
/- The two kernels as regions of the program, each entered from the buffers the items before it left. -/
module

public import proofs.«01_k».proof.Proof.Region1
public import Idealize.ShloMosaic.Lib.Pipeline.RegionsLoop

@[expose] public section

noncomputable section

namespace Cert.Proof.Pass

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

local notation "𝕄" => MT nD τ sig Unit (Elt F) ℕ UU ℕ

variable (m : (ℓ : Loc nD τ sig) → Buf (Elt F) ℓ)

/-- A core's buffers when the first kernel is entered, by reference. -/
abbrev B1 : (c : Dev nD) → (b : Ref sig .tc) → Buf (Elt F) ((c : Thread nD τ).loc b) := fun c b => V1 m c b

/-- A core's buffers after the first kernel: the two statistics' arrays as its pipeline leaves them. -/
def W2 (c : Dev nD) : Valuation τ sig (Elt F) :=
  Function.update (Function.update (V1 m c) main_v1_0 ((dat0 (B1 m) c).arrAt 2 cfg0.N)) main_v1_1 ((dat0 (B1 m) c).arrAt 3 cfg0.N)

/-- A core's buffers when the second kernel is entered. -/
def W3 (c : Dev nD) : Valuation τ sig (Elt F) := StableHlo.after hostOps1 (W2 m c)
abbrev B3 : (c : Dev nD) → (b : Ref sig .tc) → Buf (Elt F) ((c : Thread nD τ).loc b) := fun c b => W3 m c b

/-- A core's buffers after the second kernel. -/
def W4 (c : Dev nD) : Valuation τ sig (Elt F) :=
  Function.update (Function.update (W3 m c) main_v3_0 ((dat1 (B3 m) c).arrAt 4 cfg1.N)) main_v3_1 ((dat1 (B3 m) c).arrAt 5 cfg1.N)

/-- The last point's number is a point's. -/
theorem last_lt : 122 < cfg1.N := by decide

/-- What the regions leave in the buffers they may change. -/
def outs : Outs (F := F) := fun J r c => if J = 2 then W2 m c r else W4 m c r

theorem ne10 : (Proc.devRef .tc main_v1_0 : DevRef τ sig) ≠ Proc.devRef .tc main_v1_1 := StableHlo.devRef_ne_of_ne (by decide)
theorem ne30 : (Proc.devRef .tc main_v3_0 : DevRef τ sig) ≠ Proc.devRef .tc main_v3_1 := StableHlo.devRef_ne_of_ne (by decide)

theorem W2_v1_0 (c : Dev nD) : W2 m c main_v1_0 = (dat0 (B1 m) c).arrAt 2 cfg0.N := by
  unfold W2; rw [Function.update_of_ne ne10, Function.update_self]
theorem W2_v1_1 (c : Dev nD) : W2 m c main_v1_1 = (dat0 (B1 m) c).arrAt 3 cfg0.N := by
  unfold W2; rw [Function.update_self]
theorem W2_ne (c : Dev nD) (b : Ref sig .tc) (h0 : b ≠ main_v1_0) (h1 : b ≠ main_v1_1) : W2 m c b = V1 m c b := by
  unfold W2; rw [Function.update_of_ne (StableHlo.devRef_ne_of_ne h1), Function.update_of_ne (StableHlo.devRef_ne_of_ne h0)]
theorem W4_v3_0 (c : Dev nD) : W4 m c main_v3_0 = (dat1 (B3 m) c).arrAt 4 cfg1.N := by
  unfold W4; rw [Function.update_of_ne ne30, Function.update_self]
theorem W4_v3_1 (c : Dev nD) : W4 m c main_v3_1 = (dat1 (B3 m) c).arrAt 5 cfg1.N := by
  unfold W4; rw [Function.update_self]
theorem W4_ne (c : Dev nD) (b : Ref sig .tc) (h0 : b ≠ main_v3_0) (h1 : b ≠ main_v3_1) : W4 m c b = W3 m c b := by
  unfold W4; rw [Function.update_of_ne (StableHlo.devRef_ne_of_ne h1), Function.update_of_ne (StableHlo.devRef_ne_of_ne h0)]

theorem V2_eq (c : Dev nD) : V2 m (outs m) c = W2 m c := by
  show Function.update (Function.update (V1 m c) main_v1_0 (W2 m c main_v1_0)) main_v1_1 (W2 m c main_v1_1) = W2 m c
  rw [W2_v1_0, W2_v1_1]; rfl
theorem V3_eq (c : Dev nD) : V3 m (outs m) c = W3 m c := by
  show StableHlo.after hostOps1 (V2 m (outs m) c) = _
  rw [V2_eq]; rfl
theorem V4_eq (c : Dev nD) : V4 m (outs m) c = W4 m c := by
  show Function.update (Function.update (V3 m (outs m) c) main_v3_0 (W4 m c main_v3_0)) main_v3_1 (W4 m c main_v3_1) = W4 m c
  rw [W4_v3_0, W4_v3_1, V3_eq]; rfl

/-- The two pipelines' proof data. -/
def pdats : (p : Fin 2) → (c : Dev nD) → Dat τ (Elt F) Unit ℕ UU ℕ (Pipeline.pin (pcfgs (F := F)) adm p) c
  | ⟨0, _⟩ => fun c => dat0 (B1 m) c
  | ⟨1, _⟩ => fun c => dat1 (B3 m) c

/-- No core owes another anything: no level is assigned. -/
abbrev noL : GSem nD τ sig → Finset Unit := fun _ => ∅
abbrev nolv : GSem nD τ sig → Unit → ℕ := fun _ _ => 0

/-- What rides beside the buffers between two items: the core's dues, none. -/
abbrev dues (c : Dev nD) : sProp 𝕄 := iprop(∃ W, owes (c : Thread nD τ) (0 : CellTallies nD τ sig Unit) W)

set_option backward.isDefEq.respectTransparency.types false in
/-- The first kernel's region. -/
def reg0 : Pipeline.RegionSeg (pcfgs (F := F)) adm (pdats m) () defs₀ Variants.none noL nolv 0 where
  win := (launch0).win.to₀
  block_pos := (launch0).block_pos
  stage_whole := (launch0).stage_whole
  K := PEmpty
  osem k := k.elim
  ho := Pipeline.OwnSemFacts.none _
  hbody c := body_obligation0 (B1 m) c
  hwaits := Pipeline.hwaits_of_owed_zero _ _ _ _ noL nolv 0 fun _ _ => rfl
  pre c := iprop(unscopedBufs c (B1 m c) ∗ dues c)
  post c := iprop(unscopedBufs c (fun b => W2 m c b) ∗ dues c)
  X _ := BI.emp
  Y _ := BI.emp
  Z c := Pipeline.unscopedRest (Ix := Unit) (Name := ℕ) (U := UU) (Lvl := ℕ) spec0 c (B1 m c)
  hentry c := by
    rw [Pipeline.ownSems0_none]
    have hsplit := Pipeline.arrays_of_unscopedBufs (p := 0) (pcfgs (F := F)) adm (pdats m) (launch0).win (launch0).arr_whole c
      ((pdats m 0 c).share_full fun _ => rfl) (B1 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (pdats m 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) (launch0).win (launch0).arr_whole c
      (pdats m) ((pdats m 0 c).share_full fun _ => rfl) (B1 m c) (fun b => W2 m c b) ((pdats m 0 c).arrAt · cfg0.N)
      (fun w => by
        fin_cases w
        · exact ((pdats m 0 c).arrAt_in 0 rfl _).trans (W2_ne m c main_arg0 (by decide) (by decide)).symm
        · exact ((pdats m 0 c).arrAt_in 1 rfl _).trans (W2_ne m c main_v0 (by decide) (by decide)).symm
        · exact (W2_v1_0 m c).symm
        · exact (W2_v1_1 m c).symm)
      (fun b hb => W2_ne m c b (fun h => hb (h ▸ Finset.mem_image.mpr ⟨2, Finset.mem_univ _, rfl⟩))
        (fun h => hb (h ▸ Finset.mem_image.mpr ⟨3, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The second kernel's region: its scratch buffer enters the invariant at anything and leaves it at the last maximum. -/
def reg1 : Pipeline.RegionSeg (pcfgs (F := F)) adm (pdats m) () defs₀ Variants.none noL nolv 1 where
  win := (launch1).win.to₀
  block_pos := (launch1).block_pos
  stage_whole := (launch1).stage_whole
  K := PEmpty
  osem k := k.elim
  ho := Pipeline.OwnSemFacts.none _
  hbody c := body_obligation1 (B3 m) c
  hwaits := Pipeline.hwaits_of_owed_zero _ _ _ _ noL nolv 1 fun _ _ => rfl
  pre c := iprop(unscopedBufs c (B3 m c) ∗ dues c)
  post c := iprop(unscopedBufs c (fun b => W4 m c b) ∗ dues c)
  X _ := BI.emp
  Y _ := BI.emp
  Z c := Pipeline.unscopedRest (Ix := Unit) (Name := ℕ) (U := UU) (Lvl := ℕ) spec1 c (B3 m c)
  hentry c := by
    rw [Pipeline.ownSems0_none]
    have hsplit := Pipeline.arrays_of_unscopedBufs (p := 1) (pcfgs (F := F)) adm (pdats m) (launch1).win (launch1).arr_whole c
      ((pdats m 1 c).share_full fun _ => rfl) (B3 m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    change iprop(BI.emp ∗ _ ∗ Pipeline.scopedRest (Ix := Unit) (Name := ℕ) (U := UU) (Lvl := ℕ) (Val := Elt F) spec1 c)
      ⊢ iprop(rest1 c ∗ (∃ f : Vec F S32x1 .f32, owns (c : Thread nD τ) (Memref.whole cc1_scratch0) fullShare f))
    rw [scopedRest1_eq]
    unfold rest1
    iintro ⟨-, -, H0, H1, H2, H3, H4, H5, ⟨%f, H6⟩⟩
    isplitl [H0 H1 H2 H3 H4 H5]
    · isplitl [H0]; · iexact H0
      isplitl [H1]; · iexact H1
      isplitl [H2]; · iexact H2
      isplitl [H3]; · iexact H3
      isplitl [H4]; · iexact H4
      iexact H5
    iexists f
    rw [owns_whole_eq]
    iexists f; isplitr; · ipureintro; rfl
    iexact H6
  hout c := by
    rw [Pipeline.ownSems0_none]
    change iprop(rest1 c ∗ owns (c : Thread nD τ) (Memref.whole cc1_scratch0) fullShare (bestAt (B3 m) c 122 last_lt).1)
      ⊢ iprop(BI.emp ∗ BI.emp ∗ Pipeline.scopedRest (Ix := Unit) (Name := ℕ) (U := UU) (Lvl := ℕ) (Val := Elt F) spec1 c)
    rw [scopedRest1_eq, owns_whole_eq]
    unfold rest1
    iintro ⟨⟨H0, H1, H2, H3, H4, H5⟩, ⟨%f, -, H6⟩⟩
    isplitr; · iempintro
    isplitr; · iempintro
    isplitl [H0]; · iexact H0
    isplitl [H1]; · iexact H1
    isplitl [H2]; · iexact H2
    isplitl [H3]; · iexact H3
    isplitl [H4]; · iexact H4
    isplitl [H5]; · iexact H5
    iexists f; iexact H6
  hexit c := by
    have hjoin := Pipeline.unscopedBufs_of_arrays (p := 1) (pcfgs (F := F)) adm (Ix := Unit) (Name := ℕ) (U := UU) (Lvl := ℕ) (launch1).win (launch1).arr_whole c
      (pdats m) ((pdats m 1 c).share_full fun _ => rfl) (B3 m c) (fun b => W4 m c b) ((pdats m 1 c).arrAt · cfg1.N)
      (fun w => by
        fin_cases w
        · exact ((pdats m 1 c).arrAt_in 0 rfl _).trans (W4_ne m c main_arg0 (by decide) (by decide)).symm
        · exact ((pdats m 1 c).arrAt_in 1 rfl _).trans (W4_ne m c main_v2 (by decide) (by decide)).symm
        · exact ((pdats m 1 c).arrAt_in 2 rfl _).trans (W4_ne m c main_v1_0 (by decide) (by decide)).symm
        · exact ((pdats m 1 c).arrAt_in 3 rfl _).trans (W4_ne m c main_v1_1 (by decide) (by decide)).symm
        · exact (W4_v3_0 m c).symm
        · exact (W4_v3_1 m c).symm)
      (fun b hb => W4_ne m c b (fun h => hb (h ▸ Finset.mem_image.mpr ⟨4, Finset.mem_univ _, rfl⟩))
        (fun h => hb (h ▸ Finset.mem_image.mpr ⟨5, Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem pre0 (c : Dev nD) : iprop(StableHlo.held (c : Thread nD τ) (Pipeline.ucRefs τ sig) (V1 m c) ∗ dues (F := F) c) ⊢ (reg0 m).pre c := by
  rw [← Pipeline.unscopedBufs_held (Ix := Unit) (Name := ℕ) (U := UU) (Lvl := ℕ) c (V1 m c)]; exact BI.Entails.refl _
theorem post0 (c : Dev nD) : (reg0 m).post c ⊢ iprop(StableHlo.held (c : Thread nD τ) (Pipeline.ucRefs τ sig) (V2 m (outs m) c) ∗ dues (F := F) c) := by
  rw [V2_eq, ← Pipeline.unscopedBufs_held (Ix := Unit) (Name := ℕ) (U := UU) (Lvl := ℕ) c (W2 m c)]; exact BI.Entails.refl _
theorem pre1 (c : Dev nD) : iprop(StableHlo.held (c : Thread nD τ) (Pipeline.ucRefs τ sig) (V3 m (outs m) c) ∗ dues (F := F) c) ⊢ (reg1 m).pre c := by
  rw [V3_eq, ← Pipeline.unscopedBufs_held (Ix := Unit) (Name := ℕ) (U := UU) (Lvl := ℕ) c (W3 m c)]; exact BI.Entails.refl _
theorem post1 (c : Dev nD) : (reg1 m).post c ⊢ iprop(StableHlo.held (c : Thread nD τ) (Pipeline.ucRefs τ sig) (V4 m (outs m) c) ∗ dues (F := F) c) := by
  rw [V4_eq, ← Pipeline.unscopedBufs_held (Ix := Unit) (Name := ℕ) (U := UU) (Lvl := ℕ) c (W4 m c)]; exact BI.Entails.refl _

end Cert.Proof.Pass

end
-- ==== Proof.KernelRun.lean ====
/- The kernel's run, over any float values: from any memory with zero semaphores it ends, the two results at what the regions
   leave, the arguments unchanged. -/
module

public import proofs.«01_k».proof.Proof.Regs

@[expose] public section

noncomputable section

namespace Cert.Proof.Pass

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg)

variable {F : FTy → Type} [FloatOps F] [Named F]

local notation "𝕄" => MT nD τ sig Unit (Elt F) ℕ UU ℕ

set_option backward.isDefEq.respectTransparency.types false in
/-- The whole program's run: it ends with its two results as the last valuation has them, the arguments unchanged and every
    semaphore at zero. -/
theorem run_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v3_0) = V5 m (outs m) c main_v3_0
      ∧ r.2.mem ((c.tc : Thread nD τ).loc main_v4) = V5 m (outs m) c main_v4
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Pipeline.θ_run_regions_kit_dev_sems (pcfgs (F := F)) adm (pdats m) () cellOf_inj (emb₁ : Emb (UR sig nD τ) 𝕄) defs₀
    Variants.none noL nolv m ρ main (segs m (outs m) Variants.none noL nolv (fun _ => dues) () (pdats m) (reg0 m) (reg1 m))
    (fun c Q => by
      rewrite [main_chain c, Seg.run_eq_chain,
        show (segs m (outs m) Variants.none noL nolv (fun _ => dues) () (pdats m) (reg0 m) (reg1 m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide)
    0 (fun _ _ => rfl) (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ dues c))
    (Tₙ := fun c => StableHlo.held (c : Thread nD τ) (Pipeline.ucRefs τ sig) (V5 m (outs m) c))
    (hch := fun c => ⟨.rfl, pre0 m c, post0 m c, pre1 m c, post1 m c, .rfl⟩)
    (hinit := ?_)
    (QY := fun c s => s.mem ((c.tc : Thread nD τ).loc main_v3_0) = V5 m (outs m) c main_v3_0
      ∧ s.mem ((c.tc : Thread nD τ).loc main_v4) = V5 m (outs m) c main_v4
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h hz => ⟨h, funext fun g => hz g (.inr (regions_no_unscoped g.2))⟩)
  · have hemp : (bigSep Finset.univ (fun _ : Dev nD => (BI.emp : sProp 𝕄))) = BI.emp := by
      rw [show (Finset.univ : Finset (Dev nD)) = {0} from rfl, bigSep_singleton]
    have hP : ∀ P : sProp 𝕄, P ⊢ |={Set.univ}=> iprop(P ∗ bigSep Finset.univ (fun _ : Dev nD => (BI.emp : sProp 𝕄))) := fun P => by
      rw [hemp]
      iintro H
      imodintro
      isplitl [H]; · iexact H
      iempintro
    exact hP _
  · have hc : ∀ c : Dev nD, iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ BI.emp)
        ⊢ (iprop(StableHlo.held (c : Thread nD τ) (Pipeline.ucRefs τ sig) (V0 m c) ∗ dues c) : sProp 𝕄) := fun c => by
      rw [← Pipeline.unscopedBufs_held (Ix := Unit) (Name := ℕ) (U := UU) (Lvl := ℕ) c (V0 m c)]
      iintro ⟨Hb, -, Ho, -, -, -⟩
      isplitl [Hb]; · iexact Hb
      iexists ∅; iexact Ho
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ BI.emp))
        ⊢ (bigSep Finset.univ fun c : Dev nD => iprop(StableHlo.held (c : Thread nD τ) (Pipeline.ucRefs τ sig) (V0 m c) ∗ dues c) : sProp 𝕄) :=
      bigSep_mono fun c _ => hc c
    iintro ⟨H, -⟩
    ihave H' := hsplit $$ H
    imodintro
    iexact H'
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      exact ⟨h (Proc.devRef .tc main_v3_0) (Finset.mem_filter.mpr ⟨StableHlo.devRef_mem_tcRefs main_v3_0, by decide⟩),
        h (Proc.devRef .tc main_v4) (Finset.mem_filter.mpr ⟨StableHlo.devRef_mem_tcRefs main_v4, by decide⟩),
        (h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c)⟩
    · iexact HSI

/-- The program's frame, at any float values: every run ends, the arguments unchanged and the semaphores at zero. -/
theorem frame_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs (onTc (τ := τ) (main (F := F))) _).mono (fun _ h => ⟨fun c => ⟨(h.1 c).2.2.1, (h.1 c).2.2.2⟩, h.2⟩) (run_main m ρ)

end Cert.Proof.Pass

end
-- ==== Proof.BitsFrame.lean ====
/-
  The frame of the program as compiled, on the bit patterns. Its text is the idealized program's with the one named literal
  read back as the bit pattern that it stands for: under that reading the two programs are the same, and the frame proved
  for every float type (`Cert.Proof.Pass.frame_main`) is the frame of this one too.
-/
module

public import proofs.«01_k».proof.Proof.KernelRun
public import proofs.«01_k».proof.Proof.Gen.Kernel.Launch
public import proofs.«01_k».proof.Defs

@[expose] public section

noncomputable section

namespace Cert.Proof.Compiled

open Cert.Kernel
open Idealize.ShloMosaic Idealize.ShloMosaic.TcCoe Idealize.SL.Sem

/-- Read a named literal as the bit pattern written in the program. -/
local instance literal : Named Bits := ⟨fun _ _ {_} b => Scalar.ofBits _ b⟩

set_option maxRecDepth 65536 in
theorem main_eq : Cert.KernelIdeal.main (F := Bits) = main (F := Bits) := rfl

set_option maxRecDepth 65536 in
theorem defs₀_eq : Cert.KernelIdeal.defs₀ (F := Bits) = defs₀ (F := Bits) := by
  funext p l a
  cases p with
  | tc =>
    match l, a with
    | 0, (t, s) => rfl
    | 1, (t, s) => rfl
  | scScalar => rfl
  | scVector => rfl

set_option maxRecDepth 65536 in
theorem defs_eq : Cert.KernelIdeal.defs (F := Bits) = defs (F := Bits) :=
  congrArg (Pipeline.defs (pcfgs (F := Bits))) defs₀_eq

/-- The compiled program ends with its arguments unchanged and every semaphore at zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0) := by
  rw [← defs_eq, ← main_eq]
  exact Cert.Proof.Pass.frame_main (F := Bits) m ρ

end Cert.Proof.Compiled

end
-- ==== Proof.RefRun.lean ====
/-
  The reference's run. It is a straight line of host operations: `ops` is that line, read off the program, and `run` says
  that every buffer ends holding what the line's operations, applied in order, leave there. No operation writes an
  argument and the program has no semaphore, which is the frame (`frame`).
-/
module

public import Idealize.ShloMosaic.Lib.StableHlo.RunHlo
public import Idealize.ShloMosaic.Lib.StableHlo.RunRead
public import Idealize.ShloMosaic.Lib.Quiescent
public import proofs.«01_k».proof.Proof.Gen.ReferenceIdeal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The program's operations with the proof that it is their straight line. -/
def line : {l : List (HloOp τ sig (Elt F)) // ∀ d, IsSeq (main (F := F) d) l} := by
  apply Subtype.mk
  hlo_seq

/-- The program's operations, in order. -/
abbrev ops : List (HloOp τ sig (Elt F)) := (line (F := F)).1

/-- Every buffer ends at what the operations leave there. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_hlo _ _ (line (F := F)).2 (by decide) (by decide) (by simp [ops, line])
    (by intro _ h; (repeat (cases h with | head => rfl | tail _ h => ?_)); exact nomatch h) m ρ

theorem arg0_kept (V : Valuation τ sig (Elt F)) : after ops V (Proc.devRef .tc main_arg0) = V (Proc.devRef .tc main_arg0) := by
  after_reads_simp

theorem arg1_kept (V : Valuation τ sig (Elt F)) : after ops V (Proc.devRef .tc main_arg1) = V (Proc.devRef .tc main_arg1) := by
  after_reads_simp

/-- The reference keeps its arguments and has no semaphore. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  θ_run_mono (run m ρ) fun r h =>
    ⟨fun c => ⟨(h c main_arg0).trans (arg0_kept _), (h c main_arg1).trans (arg1_kept _)⟩, sem_eq_zero_of_no_sems (by decide) r.2⟩

end Cert.Proof.Ref

end
-- ==== Proof.Rows.lean ====
/- A row of extended reals read block by block: its maximum, the sum of its exponentials relative to that maximum, and the
   first column that attains the maximum. -/
module

public import Idealize.ShloMosaic.PureOps.Ideal.Laws
public import Idealize.ShloMosaic.Lib.IdealHost

@[expose] public section

noncomputable section

namespace Cert.Proof.Rows

open Idealize.ShloMosaic

/-- The maximum of the first `n` columns. -/
def top (a : ℕ → EReal) (n : ℕ) : EReal := (Finset.range n).sup a

/-- The sum, over the first `n` columns, of the exponentials relative to their maximum. -/
def mass (a : ℕ → EReal) (n : ℕ) : EReal := ∑ c ∈ Finset.range n, Ideal.exp (a c - top a n)

theorem le_top (a : ℕ → EReal) {n c : ℕ} (h : c < n) : a c ≤ top a n := Finset.le_sup (Finset.mem_range.mpr h)

theorem top_le {a : ℕ → EReal} {n : ℕ} {x : EReal} (h : ∀ c < n, a c ≤ x) : top a n ≤ x :=
  Finset.sup_le fun c hc => h c (Finset.mem_range.mp hc)

theorem top_zero (a : ℕ → EReal) : top a 0 = ⊥ := rfl
theorem mass_zero (a : ℕ → EReal) : mass a 0 = 0 := rfl

/-- The maximum of the columns of one block of width `k` that starts at column `n`. -/
def blockTop (a : ℕ → EReal) (n k : ℕ) : EReal := (Finset.univ : Finset (Fin k)).sup fun c => a (n + c.val)

theorem top_add (a : ℕ → EReal) (n k : ℕ) : top a (n + k) = max (top a n) (blockTop a n k) := by
  apply le_antisymm
  · refine top_le fun c hc => ?_
    by_cases h : c < n
    · exact le_max_of_le_left (le_top a h)
    · refine le_max_of_le_right ?_
      have := Finset.le_sup (f := fun c : Fin k => a (n + c.val)) (Finset.mem_univ (⟨c - n, by omega⟩ : Fin k))
      rwa [show n + (⟨c - n, by omega⟩ : Fin k).val = c from by show n + (c - n) = c; omega] at this
  · refine max_le (top_le fun c hc => le_top a (by omega)) (Finset.sup_le fun c _ => le_top a ?_)
    have := c.isLt; omega

theorem top_univ (a : ℕ → EReal) (n : ℕ) : (Finset.univ : Finset (Fin n)).sup (fun c => a c.val) = top a n := by
  have h := top_add a 0 n
  rw [top_zero, Nat.zero_add, bot_sup_eq] at h
  rw [h]; unfold blockTop; congr 1; funext c; rw [Nat.zero_add]

theorem top_mono (a : ℕ → EReal) {n k : ℕ} (h : n ≤ k) : top a n ≤ top a k := top_le fun _ hc => le_top a (by omega)

/-- Columns that hold `⊥` do not count. -/
theorem top_pad (a : ℕ → EReal) {n k : ℕ} (h : n ≤ k) (hb : ∀ c, n ≤ c → a c = ⊥) : top a k = top a n := by
  refine le_antisymm (top_le fun c _ => ?_) (top_mono a h)
  by_cases hc : c < n
  · exact le_top a hc
  · rw [hb c (by omega)]; exact bot_le

theorem exists_top (a : ℕ → EReal) {n : ℕ} (h : 0 < n) : ∃ c < n, a c = top a n := by
  obtain ⟨c, hc, e⟩ := Finset.exists_mem_eq_sup (Finset.range n) ⟨0, Finset.mem_range.mpr h⟩ a
  exact ⟨c, Finset.mem_range.mp hc, e.symm⟩

theorem exp_nonneg (x : EReal) : 0 ≤ Ideal.exp x := by
  induction x using EReal.rec with
  | bot => exact le_refl _
  | top => exact _root_.le_top
  | coe r => exact EReal.coe_nonneg.mpr (Real.exp_pos r).le

theorem exp_add_of_ne_top {x y : EReal} (hx : x ≠ ⊤) (hy : y ≠ ⊤) : Ideal.exp x * Ideal.exp y = Ideal.exp (x + y) := by
  induction x using EReal.rec with
  | top => exact absurd rfl hx
  | bot => rw [EReal.bot_add]; exact zero_mul _
  | coe r =>
    induction y using EReal.rec with
    | top => exact absurd rfl hy
    | bot => rw [EReal.add_bot]; exact mul_zero _
    | coe q =>
      rw [← EReal.coe_add]
      show ((Real.exp r : ℝ) : EReal) * ((Real.exp q : ℝ) : EReal) = ((Real.exp (r + q) : ℝ) : EReal)
      rw [Real.exp_add, EReal.coe_mul]

/-- Moving one exponential from maximum `m` to a larger one `m'`. -/
theorem exp_rescale {x m m' : EReal} (hx : x ≤ m) (hm : m ≤ m') (ht : m' ≠ ⊤) :
    Ideal.exp (x - m) * Ideal.exp (m - m') = Ideal.exp (x - m') := by
  have hmt : m ≠ ⊤ := fun h => ht (top_le_iff.mp (h ▸ hm))
  induction m using EReal.rec with
  | top => exact absurd rfl hmt
  | bot =>
    rw [le_bot_iff.mp hx, EReal.bot_sub, EReal.bot_sub]; exact zero_mul _
  | coe r =>
    induction m' using EReal.rec with
    | top => exact absurd rfl ht
    | bot => exact absurd (le_bot_iff.mp hm) (EReal.coe_ne_bot r)
    | coe q =>
      induction x using EReal.rec with
      | top => exact absurd (top_le_iff.mp hx) (EReal.coe_ne_top r)
      | bot => rw [EReal.bot_sub, EReal.bot_sub]; exact zero_mul _
      | coe p =>
        rw [← EReal.coe_sub, ← EReal.coe_sub, ← EReal.coe_sub,
          exp_add_of_ne_top (EReal.coe_ne_top _) (EReal.coe_ne_top _), ← EReal.coe_add]
        congr 2; ring

theorem sum_mul_of_nonneg {ι : Type} (s : Finset ι) (f : ι → EReal) (y : EReal) (hf : ∀ c ∈ s, 0 ≤ f c) :
    (∑ c ∈ s, f c) * y = ∑ c ∈ s, f c * y := by
  classical
  induction s using Finset.cons_induction with
  | empty => simp
  | cons a s ha ih =>
    rw [Finset.sum_cons, Finset.sum_cons, EReal.right_distrib_of_nonneg (hf a (Finset.mem_cons_self a s))
      (Finset.sum_nonneg fun c hc => hf c (Finset.mem_cons_of_mem hc)), ih fun c hc => hf c (Finset.mem_cons_of_mem hc)]

/-- One block further: the sum so far is rescaled to the new maximum and the block's exponentials are added. -/
theorem mass_add (a : ℕ → EReal) (n k : ℕ) (ht : top a (n + k) ≠ ⊤) :
    mass a (n + k) = mass a n * Ideal.exp (top a n - top a (n + k))
      + ∑ c : Fin k, Ideal.exp (a (n + c.val) - top a (n + k)) := by
  unfold mass
  rw [Finset.sum_range_add, sum_mul_of_nonneg _ _ _ fun c _ => exp_nonneg _, Finset.sum_range]
  congr 1
  · rw [Finset.sum_range]
    refine Finset.sum_congr rfl fun c _ => ?_
    exact (exp_rescale (le_top a c.isLt) (top_mono a (Nat.le_add_right n k)) ht).symm
  · rw [Finset.sum_range]

theorem mass_pad (a : ℕ → EReal) {n k : ℕ} (h : n ≤ k) (hb : ∀ c, n ≤ c → a c = ⊥) : mass a k = mass a n := by
  unfold mass
  rw [top_pad a h hb]
  refine (Finset.sum_subset (Finset.range_mono h) fun c _ hc => ?_).symm
  rw [hb c (by simpa using hc), EReal.bot_sub]; rfl

theorem exp_ne_top {x : EReal} (h : x ≠ ⊤) : Ideal.exp x ≠ ⊤ := by
  induction x using EReal.rec with
  | top => exact absurd rfl h
  | bot => exact EReal.zero_ne_top
  | coe r => exact EReal.coe_ne_top _

theorem sum_ne_top {ι : Type} (s : Finset ι) (f : ι → EReal) (hf : ∀ c ∈ s, f c ≠ ⊤) : ∑ c ∈ s, f c ≠ ⊤ := by
  classical
  induction s using Finset.cons_induction with
  | empty => simp
  | cons a s ha ih =>
    rw [Finset.sum_cons]
    exact EReal.add_ne_top (hf a (Finset.mem_cons_self a s)) (ih fun c hc => hf c (Finset.mem_cons_of_mem hc))

/-- Over a row whose maximum is a real, the sum is a positive real. -/
theorem mass_pos (a : ℕ → EReal) (n : ℕ) (μ : ℝ) (h : top a n = μ) : ∃ σ : ℝ, 0 < σ ∧ mass a n = σ := by
  have hn : 0 < n := Nat.pos_of_ne_zero fun e => by subst e; exact EReal.coe_ne_bot μ h.symm
  obtain ⟨c, hc, e⟩ := exists_top a hn
  have h1 : (1 : EReal) ≤ mass a n := by
    have := Finset.single_le_sum (f := fun c => Ideal.exp (a c - top a n)) (fun c _ => exp_nonneg _) (Finset.mem_range.mpr hc)
    refine le_trans ?_ this
    rw [e, h, ← EReal.coe_sub, sub_self]
    show (1 : EReal) ≤ ((Real.exp 0 : ℝ) : EReal)
    rw [Real.exp_zero, EReal.coe_one]
  have ht : mass a n ≠ ⊤ := sum_ne_top _ _ fun c hc => exp_ne_top <| by
    rw [h]
    have hle : a c ≤ μ := h ▸ le_top a (Finset.mem_range.mp hc)
    generalize a c = x at hle
    induction x using EReal.rec with
    | top => exact absurd (top_le_iff.mp hle) (EReal.coe_ne_top μ)
    | bot => rw [EReal.bot_sub]; exact bot_ne_top
    | coe r => rw [← EReal.coe_sub]; exact EReal.coe_ne_top _
  have hb : mass a n ≠ ⊥ := fun e => by rw [e] at h1; exact absurd (le_bot_iff.mp h1) (by decide)
  refine ⟨(mass a n).toReal, ?_, (EReal.coe_toReal ht hb).symm⟩
  have : ((1 : ℝ) : EReal) ≤ ((mass a n).toReal : EReal) := by rw [EReal.coe_toReal ht hb]; simpa using h1
  exact lt_of_lt_of_le one_pos (EReal.coe_le_coe_iff.mp this)

/-- The probability of one column, two ways: the exponential relative to the log of the whole sum, and the quotient of the
    exponential relative to the maximum by the sum. -/
theorem exp_quot (x : EReal) (μ σ : ℝ) (hσ : 0 < σ) (hx : x ≠ ⊤) :
    Ideal.exp (x - ((μ : EReal) + Ideal.log (σ : EReal))) = Ideal.div (Ideal.exp (x - μ)) σ := by
  have hl : Ideal.log (σ : EReal) = (Real.log σ : ℝ) := if_neg (not_le.mpr hσ)
  have h0 : (σ : EReal) ≠ 0 := fun e => hσ.ne' (EReal.coe_eq_zero.mp e)
  rw [hl, ← EReal.coe_add]
  unfold Ideal.div
  rw [if_neg h0]
  induction x using EReal.rec with
  | top => exact absurd rfl hx
  | bot => rw [EReal.bot_sub, EReal.bot_sub]; exact (zero_mul _).symm
  | coe r =>
    rw [← EReal.coe_sub, ← EReal.coe_sub]
    show ((Real.exp (r - (μ + Real.log σ)) : ℝ) : EReal) = ((Real.exp (r - μ) : ℝ) : EReal) * (σ : EReal)⁻¹
    rw [← EReal.coe_inv, ← EReal.coe_mul, ← sub_sub, Real.exp_sub, Real.exp_log hσ, div_eq_mul_inv]

/-- Subtracting one real from every column shifts the maximum. -/
theorem top_sub (a : ℕ → EReal) (n : ℕ) (l : ℝ) : top (fun c => a c - l) n = top a n - l := by
  rcases Nat.eq_zero_or_pos n with h | h
  · subst h; rw [top_zero, top_zero, EReal.bot_sub]
  · obtain ⟨c, hc, e⟩ := exists_top a h
    refine le_antisymm (top_le fun c hc => EReal.sub_le_sub (le_top a hc) le_rfl) ?_
    rw [← e]; exact le_top (fun c => a c - (l : EReal)) hc

theorem sub_sub_cancel_real (x : EReal) (μ l : ℝ) : (x - l) - ((μ : EReal) - l) = x - μ := by
  induction x using EReal.rec with
  | top => simp [← EReal.coe_sub]
  | bot => simp [← EReal.coe_sub]
  | coe r => rw [← EReal.coe_sub, ← EReal.coe_sub, ← EReal.coe_sub, ← EReal.coe_sub]; congr 1; ring

/-! ## The first column that attains the maximum -/

/-- `i` is the first of the first `n` columns to hold their maximum; or that maximum is `⊥` and `i` is zero. -/
def Lead (a : ℕ → EReal) (n i : ℕ) : Prop := (∀ c < i, a c < top a n) ∧ (a i = top a n ∨ top a n = ⊥ ∧ i = 0)

theorem lead_zero (a : ℕ → EReal) : Lead a 0 0 := ⟨fun c hc => absurd hc (Nat.not_lt_zero c), Or.inr ⟨rfl, rfl⟩⟩

/-- A block whose maximum does not pass the maximum so far changes nothing. -/
theorem lead_keep {a : ℕ → EReal} {n i : ℕ} (k : ℕ) (h : Lead a n i) (hk : ¬ top a n < blockTop a n k) : Lead a (n + k) i := by
  have e : top a (n + k) = top a n := by rw [top_add]; exact max_eq_left (not_lt.mp hk)
  unfold Lead; rw [e]; exact h

/-- A block that passes it: the block's first column with the block's maximum leads. -/
theorem lead_move {a : ℕ → EReal} {n i k : ℕ} (hk : top a n < blockTop a n k) (hi : n ≤ i)
    (he : a i = blockTop a n k) (hf : ∀ c, n ≤ c → c < i → a c ≠ blockTop a n k) (hik : i < n + k) : Lead a (n + k) i := by
  have e : top a (n + k) = blockTop a n k := by rw [top_add]; exact max_eq_right hk.le
  unfold Lead; rw [e]
  refine ⟨fun c hc => ?_, Or.inl he⟩
  by_cases h : c < n
  · exact lt_of_le_of_lt (le_top a h) hk
  · exact lt_of_le_of_ne (e ▸ le_top a (by omega)) (hf c (by omega) hc)

theorem lead_lt {a : ℕ → EReal} {n k i : ℕ} (h : Lead a k i) (hn : 0 < n) (hb : ∀ c, n ≤ c → a c = ⊥) : i < n := by
  rcases h.2 with h2 | h2
  · by_contra hc
    have h3 := hb i (by omega)
    rw [h3] at h2
    have := h.1 0 (by omega)
    rw [← h2] at this; exact absurd this not_lt_bot
  · omega

/-- There is one such column. -/
theorem lead_unique {a : ℕ → EReal} {n i j : ℕ} (hi : Lead a n i) (hj : Lead a n j) : i = j := by
  have key : ∀ {i j : ℕ}, Lead a n i → Lead a n j → i < j → False := fun {i j} hi hj hlt => by
    have h := hj.1 i hlt
    rcases hi.2 with e | ⟨e, -⟩
    · exact absurd e h.ne
    · rw [e] at h; exact absurd h not_lt_bot
  rcases lt_trichotomy i j with h | h | h
  · exact (key hi hj h).elim
  · exact h
  · exact (key hj hi h).elim

end Cert.Proof.Rows

end
-- ==== Proof.Words.lean ====
/- The random word of one element, as a function of its counter: twenty rounds of additions, rotations and exclusive ors in
   five groups of four, a key word added after each group. Then the second kernel's words, read at an element, are it. -/
module

public import proofs.«01_k».proof.Proof.Blocks

@[expose] public section

noncomputable section

namespace Cert.Proof.Words

open Idealize.ShloMosaic

/-- A word rotated, as its two shifted parts. -/
def rot (w a b : BitVec 32) : BitVec 32 := IntOp.ori (IntOp.shli .vector w a) (IntOp.shrui .vector w b)

/-- One round on a pair of words. -/
def turn (a b : BitVec 32) (p : BitVec 32 × BitVec 32) : BitVec 32 × BitVec 32 :=
  (IntOp.addi p.1 p.2, IntOp.xori (IntOp.addi p.1 p.2) (rot p.2 a b))

/-- The two groups of four rounds. -/
def evens (p : BitVec 32 × BitVec 32) : BitVec 32 × BitVec 32 := turn 6#32 26#32 (turn 26#32 6#32 (turn 15#32 17#32 (turn 13#32 19#32 p)))
def odds (p : BitVec 32 × BitVec 32) : BitVec 32 × BitVec 32 := turn 24#32 8#32 (turn 16#32 16#32 (turn 29#32 3#32 (turn 17#32 15#32 p)))

/-- The key words and the group's number added after a group. -/
def inject (k l n : BitVec 32) (p : BitVec 32 × BitVec 32) : BitVec 32 × BitVec 32 :=
  (IntOp.addi p.1 k, IntOp.addi (IntOp.addi p.2 l) n)

/-- The key's third word. -/
def third (k l : BitVec 32) : BitVec 32 := IntOp.xori (IntOp.xori k l) 466688986#32

/-- The pair after each group, from the key words `k`, `l` and the counter's words `h`, `n`. -/
def pair0 (k l h n : BitVec 32) : BitVec 32 × BitVec 32 := (IntOp.addi h k, IntOp.addi n l)
def pair1 (k l : BitVec 32) (p : BitVec 32 × BitVec 32) := inject l (third k l) 1#32 (evens p)
def pair2 (k l : BitVec 32) (p : BitVec 32 × BitVec 32) := inject (third k l) k 2#32 (odds p)
def pair3 (k l : BitVec 32) (p : BitVec 32 × BitVec 32) := inject k l 3#32 (evens p)
def pair4 (k l : BitVec 32) (p : BitVec 32 × BitVec 32) := inject l (third k l) 4#32 (odds p)
def pair5 (k l : BitVec 32) (p : BitVec 32 × BitVec 32) := inject (third k l) k 5#32 (evens p)

/-- The word drawn for a counter. -/
def draw (k l h n : BitVec 32) : BitVec 32 :=
  let p := pair5 k l (pair4 k l (pair3 k l (pair2 k l (pair1 k l (pair0 k l h n)))))
  IntOp.xori p.1 p.2

/-- The word's top 23 bits under the exponent of one: the bits of a number from one up to two. -/
def bits (w : BitVec 32) : BitVec 32 := IntOp.ori (IntOp.shrui .vector w 9#32) 1065353216#32

end Cert.Proof.Words

namespace Cert.Proof.Pass

open Cert.KernelIdeal Cert.KernelIdeal.Gen Cert.Proof.Words
open Idealize.ShloMosaic

variable {F : FTy → Type} [FloatOps F] [Named F]

/-- The kernel's counter at an element. -/
theorem counter_at (i : grid1.Coords) (j : S32x8192.Idx) :
    k1_pay6 i j = BitVec.ofNat 32 ((j 0).val * 1000000 + (8192 * (i 0).val + (j 1).val)) := by
  have e : k1_pay6 i j = IntOp.addi (IntOp.addi (IntOp.muli (BitVec.ofNat 32 (0 * 32 + (j 0).val)) 1000000#32)
      (Scalar.muli (BitVec.ofNat 32 (i 0).val) 8192#32)) (BitVec.ofNat 32 (0 * 8192 + (j 1).val)) := rfl
  rw [e]
  unfold Scalar.muli IntOp.addi IntOp.muli
  apply BitVec.eq_of_toNat_eq
  simp only [BitVec.toNat_add, BitVec.toNat_mul, BitVec.toNat_ofNat]
  omega

section
variable (i : grid1.Coords) (j : S32x8192.Idx)

/-- The first group and the second's first round, as the body computes them. -/
theorem rounds_a (x y z : IVec S32x8192 32) :
    (k1_pay18 x y ks z j, k1_pay19 x y ks z j) = turn 17#32 15#32 (pair1 0#32 42#32 (IntOp.addi (y j) (z j), IntOp.addi (x j) 42#32)) := by
  have h1 : (k1_pay10 x y z j, k1_pay11 x y z j) = turn 13#32 19#32 (IntOp.addi (y j) (z j), IntOp.addi (x j) 42#32) := rfl
  have h2 : (k1_pay12 x y z j, k1_pay13 x y z j) = turn 15#32 17#32 (k1_pay10 x y z j, k1_pay11 x y z j) := rfl
  have h3 : (k1_pay14 x y z j, k1_pay15 x y z j) = turn 26#32 6#32 (k1_pay12 x y z j, k1_pay13 x y z j) := rfl
  have h4 : (k1_pay18 x y ks z j, k1_pay19 x y ks z j)
      = turn 17#32 15#32 (inject 42#32 ks 1#32 (turn 6#32 26#32 (k1_pay14 x y z j, k1_pay15 x y z j))) := rfl
  rw [h4, h3, h2, h1]; rfl

/-- The pair of words the second group starts from. -/
def start2 : BitVec 32 × BitVec 32 := pair1 0#32 42#32 (pair0 0#32 42#32 0#32 (k1_pay6 i j))

theorem first_words : (k1_pay18 (k1_pay6 i) k1_pay7 ks k1_pay8 j, w79 i j) = turn 17#32 15#32 (start2 i j) :=
  rounds_a j (k1_pay6 i) k1_pay7 k1_pay8

/-- The rest of the second group and three rounds of the third. -/
theorem rounds_b (x y : IVec S32x8192 32) (p : BitVec 32 × BitVec 32) (h : (y j, x j) = (IntOp.addi p.1 p.2, p.2)) :
    (k1_pay31 ks x y k1_pay21 j, k1_pay32 ks x y k1_pay21 j)
      = turn 26#32 6#32 (turn 15#32 17#32 (turn 13#32 19#32 (inject ks 0#32 2#32 (turn 24#32 8#32 (turn 16#32 16#32 (turn 29#32 3#32 p)))))) := by
  have h1 : (y j, k1_pay22 x y k1_pay21 j) = turn 29#32 3#32 p := by
    show (y j, IntOp.xori (y j) (rot (x j) 29#32 3#32)) = (IntOp.addi p.1 p.2, IntOp.xori (IntOp.addi p.1 p.2) (rot p.2 29#32 3#32))
    rw [(Prod.mk.inj h).1, (Prod.mk.inj h).2]
  have h2 : (k1_pay23 x y k1_pay21 j, k1_pay24 x y k1_pay21 j) = turn 16#32 16#32 (y j, k1_pay22 x y k1_pay21 j) := rfl
  have h3 : (k1_pay27 ks x y k1_pay21 j, k1_pay28 ks x y k1_pay21 j)
      = turn 13#32 19#32 (inject ks 0#32 2#32 (turn 24#32 8#32 (k1_pay23 x y k1_pay21 j, k1_pay24 x y k1_pay21 j))) := rfl
  have h4 : (k1_pay29 ks x y k1_pay21 j, k1_pay30 ks x y k1_pay21 j)
      = turn 15#32 17#32 (k1_pay27 ks x y k1_pay21 j, k1_pay28 ks x y k1_pay21 j) := rfl
  have h5 : (k1_pay31 ks x y k1_pay21 j, k1_pay32 ks x y k1_pay21 j)
      = turn 26#32 6#32 (k1_pay29 ks x y k1_pay21 j, k1_pay30 ks x y k1_pay21 j) := rfl
  rw [h5, h4, h3, h2, h1]

/-- The rest of the third group and the fourth. -/
theorem rounds_c (x y : IVec S32x8192 32) (p : BitVec 32 × BitVec 32) (h : (y j, x j) = (IntOp.addi p.1 p.2, p.2)) :
    (k1_pay42 x y j, IntOp.addi (k1_pay43 ks x y j) (k1_pay44 j))
      = inject 42#32 ks 4#32 (odds (inject 0#32 42#32 3#32 (turn 6#32 26#32 p))) := by
  have h1 : (k1_pay35 x y j, k1_pay36 x y j)
      = turn 17#32 15#32 (inject 0#32 42#32 3#32 (y j, IntOp.xori (y j) (rot (x j) 6#32 26#32))) := rfl
  have h2 : (k1_pay37 x y j, k1_pay38 x y j) = turn 29#32 3#32 (k1_pay35 x y j, k1_pay36 x y j) := rfl
  have h3 : (k1_pay39 x y j, k1_pay40 x y j) = turn 16#32 16#32 (k1_pay37 x y j, k1_pay38 x y j) := rfl
  have h4 : (k1_pay42 x y j, IntOp.addi (k1_pay43 ks x y j) (k1_pay44 j))
      = inject 42#32 ks 4#32 (turn 24#32 8#32 (k1_pay39 x y j, k1_pay40 x y j)) := rfl
  rw [h4, h3, h2, h1, (Prod.mk.inj h).1, (Prod.mk.inj h).2]; rfl

/-- The last group and the number made of the word. -/
theorem rounds_d (x y z : IVec S32x8192 32) :
    k1_pay45 (F := F) ks x y z j = FloatOps.subf (FloatOps.ofBits .f32
      (bits (let p := pair5 0#32 42#32 (x j, IntOp.addi (y j) (z j)); IntOp.xori p.1 p.2))) (Scalar.ofBits .f32 0x3F800000#32) := by
  unfold k1_pay45; rfl

/-- The uniform draw before its shift and clamp, at an element. -/
theorem unif_at : unif (F := F) i j = FloatOps.subf (FloatOps.ofBits .f32 (bits (draw 0#32 42#32 0#32 (k1_pay6 i j))))
    (Scalar.ofBits .f32 0x3F800000#32) := by
  have hb := rounds_b j (w79 i) (w80 i) (turn 17#32 15#32 (start2 i j)) (by rw [← first_words]; rfl)
  have hc := rounds_c j (w127 i) (w128 i) (k1_pay31 ks (w79 i) (w80 i) k1_pay21 j, k1_pay32 ks (w79 i) (w80 i) k1_pay21 j) rfl
  rw [hb] at hc
  unfold unif
  rw [rounds_d, show (w170 i j, IntOp.addi (w172 i j) (k1_pay44 j)) = _ from hc]
  rfl
end

end Cert.Proof.Pass

end
-- ==== Proof.Scores.lean ====
/- What both programs compute, as numbers: a row of allowed logits, its noise, and its scores. -/
module

public import proofs.«01_k».proof.Proof.Rows
public import proofs.«01_k».proof.Proof.Words
public import Idealize.ShloMosaic.Lib.Pointwise

@[expose] public section

noncomputable section

namespace Cert.Proof.Rows

open Idealize.ShloMosaic Cert.Proof.Words

/-- The arrays' shape. -/
abbrev Wide : Shape := ⟨2, ![32, 1000000]⟩

theorem ofBits_bot : Ideal.ofBits .f32 0xFF800000#32 = (⊥ : EReal) := by simp [Ideal.ofBits, Ideal.ieee]
theorem ofBits_top : Ideal.ofBits .f32 0x7F800000#32 = (⊤ : EReal) := by simp [Ideal.ofBits, Ideal.ieee]

/-- A row of a wide array, `⊥` past its end. -/
def along {n : ℕ} (x : Fin n → EReal) (c : ℕ) : EReal := if h : c < n then x ⟨c, h⟩ else ⊥

theorem along_lt {n : ℕ} (x : Fin n → EReal) (c : Fin n) : along x c.val = x c := dif_pos c.isLt
theorem along_ge {n : ℕ} (x : Fin n → EReal) (c : ℕ) (h : n ≤ c) : along x c = ⊥ := dif_neg (by omega)

theorem top_along {n : ℕ} (x : Fin n → EReal) : top (along x) n = Finset.univ.sup x := by
  rw [← top_univ]; congr 1; funext c; exact along_lt x c

theorem mass_along {n : ℕ} (x : Fin n → EReal) : mass (along x) n = ∑ c, Ideal.exp (x c - top (along x) n) := by
  unfold mass; rw [Finset.sum_range]; refine Finset.sum_congr rfl fun c _ => ?_; rw [along_lt]

/-- The allowed logits of row `r`. -/
def logit (X : Wide.Idx → EReal) (K : Wide.Idx → BitVec 1) (r : Fin 32) (c : Fin 1000000) : EReal :=
  Scalar.select (K (ix2 r c)) (X (ix2 r c)) ⊥
abbrev cell (X : Wide.Idx → EReal) (K : Wide.Idx → BitVec 1) (r : Fin 32) : ℕ → EReal := along (logit X K r)

/-- The smallest positive number the noise starts from. -/
def tiny : EReal := Ideal.ofBits .f32 0x00800000#32

/-- The noise of a column of row `r`. -/
def noise (r : Fin 32) (c : ℕ) : EReal :=
  -Ideal.log (-Ideal.log (max tiny
    ((Ideal.ofBits .f32 (bits (draw 0#32 42#32 0#32 (BitVec.ofNat 32 (r.val * 1000000 + c)))) - 1) * (1 - tiny) + tiny)))

/-- The logarithm of the row's normaliser. -/
def lse (a : ℕ → EReal) : EReal := top a 1000000 + Ideal.log (mass a 1000000)

/-- The scores of row `r`. -/
def score (X : Wide.Idx → EReal) (K : Wide.Idx → BitVec 1) (r : Fin 32) (c : ℕ) : EReal :=
  (cell X K r c - lse (cell X K r)) + noise r c

theorem score_ge (X : Wide.Idx → EReal) (K : Wide.Idx → BitVec 1) (r : Fin 32) (c : ℕ) (h : 1000000 ≤ c) : score X K r c = ⊥ := by
  unfold score; rw [show cell X K r c = ⊥ from along_ge _ _ h, EReal.bot_sub, EReal.bot_add]

end Cert.Proof.Rows

end
-- ==== Proof.Payloads.lean ====
/- The two kernels' arithmetic at one block, over the extended reals: from the statistics of a row's columns before the block
   to those after it. -/
module

public import proofs.«01_k».proof.Proof.Region1
public import proofs.«01_k».proof.Proof.Scores
public import Idealize.ShloMosaic.Lib.Claim

@[expose] public section

noncomputable section

namespace Cert.Proof.Pass

open Cert.KernelIdeal Cert.KernelIdeal.Gen Cert.Proof.Rows Cert.Proof.Words
open Idealize.ShloMosaic Idealize.ShloMosaic.TcCoe

/-- A column read as a row per element, and a column spread over a block. -/
theorem col_cast {α : Type} (y : S32.Idx → α) (h) (r : Fin 32) : shapeCast S32x1 y h (ix2 r 0) = y (ix1 r) :=
  shapeCast_apply y h _ _ (by revert r; decide)

theorem col_spread {α : Type} (y : S32x1.Idx → α) (h) (r : Fin 32) (c : Fin 8192) : broadcastTo S32x8192 y h (ix2 r c) = y (ix2 r 0) :=
  broadcastTo_apply y h _ _ fun a => by match a with | ⟨0, _⟩ => rfl | ⟨1, _⟩ => rfl

/-- A block's row maxima and row sums. -/
theorem block_max {m n : ℕ} (x : FVec Ideal (⟨2, ![m, n]⟩ : Shape) .f32) (h : (⟨2, ![m, n]⟩ : Shape).Reduces [1] ⟨1, ![m]⟩) (hφ) (hacc) (r : Fin m) :
    multiReduction .maximumf [1] ⟨1, ![m]⟩ x 0xFF800000#32 h hφ hacc (ix1 r) = Finset.univ.sup fun c : Fin n => (x (ix2 r c) : EReal) := by
  have e := multiReduction_maximumf_eq_fold (F := Ideal) x 0xFF800000#32 h hφ hacc (ix1 r)
  refine e.trans ((h.fold_fiber_r2_a1 (α := EReal) (ix1 r) max _ x).trans ?_)
  rw [show (FloatOps.ofBits (F := Ideal) .f32 0xFF800000#32 : EReal) = ⊥ from ofBits_bot]
  rfl

theorem block_sum {m n : ℕ} (x : FVec Ideal (⟨2, ![m, n]⟩ : Shape) .f32) (h : (⟨2, ![m, n]⟩ : Shape).Reduces [1] ⟨1, ![m]⟩) (hφ) (hacc) (r : Fin m) :
    multiReduction .add [1] ⟨1, ![m]⟩ x 0x00000000#32 h hφ hacc (ix1 r) = ∑ c : Fin n, (x (ix2 r c) : EReal) :=
  h.sum_fiber_r2_a1 (M := EReal) (ix1 r) x

/-- The same of a block's rows, as columns. -/
theorem col_max (x : FVec Ideal S32x8192 .f32) (r : Fin 32) :
    shapeCast S32x1 (multiReduction .maximumf [1] S32 x 0xFF800000#32 reduces_S32x8192_S32 (.inl rfl) rfl) shapeCasts_S32_S32x1 (ix2 r 0)
      = Finset.univ.sup fun c : Fin 8192 => (x (ix2 r c) : EReal) :=
  (col_cast _ _ r).trans (block_max (m := 32) (n := 8192) x _ _ _ r)

theorem col_sum (x : FVec Ideal S32x8192 .f32) (r : Fin 32) :
    shapeCast S32x1 (multiReduction .add [1] S32 x 0x00000000#32 reduces_S32x8192_S32 (.inl rfl) rfl) shapeCasts_S32_S32x1 (ix2 r 0)
      = ∑ c : Fin 8192, (x (ix2 r c) : EReal) :=
  (col_cast _ _ r).trans (block_sum (m := 32) (n := 8192) x _ _ _ r)

/-- The fill: the negative of the number that stands for the top. -/
theorem fill_bot : (FloatOps.subf (F := Ideal) (φ := .f32) (Scalar.ofBits .f32 0x00000000#32) (Named.named Cert.KernelIdeal.κ "largest" 0x7F7FFFFF#32) : EReal) = ⊥ := by
  have h : (Named.named (F := Ideal) (φ := .f32) Cert.KernelIdeal.κ "largest" 0x7F7FFFFF#32 : EReal) = ⊤ := IdealRules.named_const.ideal_named_scalar _ _ _ _ rfl
  show Ideal.ofBits .f32 0x00000000#32 - (Named.named (F := Ideal) (φ := .f32) Cert.KernelIdeal.κ "largest" 0x7F7FFFFF#32 : EReal) = ⊥
  rw [h, Ideal.ofBits_zero_f32]; exact EReal.sub_top _

section First
variable (i : grid0.Coords) (x : Vec Ideal S32x8192 .f32) (k : Vec Ideal S32x8192 .i32) (m s : Vec Ideal S32x1 .f32)
  (a : Fin 32 → ℕ → EReal) (n : ℕ) (hx : ∀ r c, k0_pay3 i x k (ix2 r c) = a r (n + c.val)) (hm : ∀ r, m (ix2 r 0) = top (a r) n)
  (hs : ∀ r, s (ix2 r 0) = mass (a r) n) (ht : ∀ r, top (a r) (n + 8192) ≠ ⊤)

include hx hm in
theorem next_top (r : Fin 32) : k0_pay5 i x k m (ix2 r 0) = top (a r) (n + 8192) := by
  have e : k0_pay5 i x k m (ix2 r 0) = (max (k0_pay4 m (ix2 r 0)) (shapeCast S32x1
      (multiReduction .maximumf [1] S32 (k0_pay3 i x k) 0xFF800000#32 reduces_S32x8192_S32 (.inl rfl) rfl) shapeCasts_S32_S32x1 (ix2 r 0)) : EReal) := rfl
  rw [e, col_max, top_add, ← hm]
  refine congrArg₂ max ?_ ?_
  · unfold k0_pay4; exact congrFun (shapeCast_self _ _) _
  · unfold blockTop; congr 1; funext c; exact hx r c

include hx hm hs ht in
theorem next_mass (r : Fin 32) : k0_pay6 i x k m s (ix2 r 0) = mass (a r) (n + 8192) := by
  have e : k0_pay6 i x k m s (ix2 r 0) = ((shapeCast S32x1 s shapeCasts_S32x1_S32x1 (ix2 r 0) * Ideal.exp (k0_pay4 m (ix2 r 0) - k0_pay5 i x k m (ix2 r 0)))
      + shapeCast S32x1 (multiReduction .add [1] S32 (exp (subf (k0_pay3 i x k) (broadcastTo S32x8192 (k0_pay5 i x k m) broadcasts_S32x1_S32x8192)))
          0x00000000#32 reduces_S32x8192_S32 (.inl rfl) rfl) shapeCasts_S32_S32x1 (ix2 r 0) : EReal) := rfl
  rw [e, col_sum, mass_add _ _ _ (ht r), shapeCast_self, next_top i x k m a n hx hm, hs,
    show k0_pay4 m (ix2 r 0) = top (a r) n from (congrFun (shapeCast_self _ _) _).trans (hm r)]
  refine congrArg₂ (· + ·) rfl (Finset.sum_congr rfl fun c _ => ?_)
  have e2 : exp (subf (k0_pay3 i x k) (broadcastTo S32x8192 (k0_pay5 i x k m) broadcasts_S32x1_S32x8192)) (ix2 r c)
      = Ideal.exp (k0_pay3 i x k (ix2 r c) - broadcastTo S32x8192 (k0_pay5 i x k m) broadcasts_S32x1_S32x8192 (ix2 r c)) := rfl
  rw [e2, col_spread, hx, next_top i x k m a n hx hm]
end First

/-! ## The least of the columns that satisfy a condition -/

/-- A natural number as a word, cut at the largest one. -/
def word31 (n : ℕ) : BitVec 32 := BitVec.ofNat 32 (min n 2147483647)

theorem word31_of {n : ℕ} (h : n ≤ 2147483647) : word31 n = BitVec.ofNat 32 n := by unfold word31; rw [min_eq_left h]

theorem word31_min (a b : ℕ) : IntOp.minsi (word31 a) (word31 b) = word31 (min a b) := by
  have h : ∀ n, (word31 n).toInt = (min n 2147483647 : ℕ) := fun n => by
    unfold word31
    have : min n 2147483647 ≤ 2147483647 := min_le_right _ _
    rw [BitVec.toInt_eq_toNat_cond]; simp only [BitVec.toNat_ofNat]
    rw [Nat.mod_eq_of_lt (by omega), if_pos (by omega)]
  unfold IntOp.minsi BitVec.slt
  rw [h, h]
  by_cases hlt : (min a 2147483647 : ℕ) < (min b 2147483647 : ℕ)
  · rw [if_pos (by simpa using hlt)]; unfold word31; congr 1; omega
  · rw [if_neg (by simpa using hlt)]; unfold word31; congr 1; omega

theorem least {n k : ℕ} (P : Fin k → Prop) [DecidablePred P] (hP : ∃ c, P c) (hb : n + k ≤ 2147483647) :
    ∃ x : Fin k, P x ∧ (∀ c : Fin k, c < x → ¬ P c) ∧
      (Finset.univ.fold IntOp.minsi 2147483647#32 fun c : Fin k => if P c then BitVec.ofNat 32 (n + c.val) else 2147483647#32) = BitVec.ofNat 32 (n + x.val) := by
  set g : Fin k → ℕ := fun c => if P c then n + c.val else 2147483647 with hg
  have e : (fun c : Fin k => if P c then BitVec.ofNat 32 (n + c.val) else 2147483647#32) = fun c => word31 (g c) := funext fun c => by
    have := c.isLt
    simp only [hg]; split
    · exact (word31_of (by omega)).symm
    · rfl
  rw [e, show (2147483647#32 : BitVec 32) = word31 2147483647 from rfl, Finset.fold_hom (op := min) (op' := IntOp.minsi) fun a b => (word31_min a b).symm]
  set M := Finset.univ.fold min 2147483647 g with hM
  have hle : ∀ c, M ≤ g c := fun c => (Finset.le_fold_min M).mp le_rfl |>.2 c (Finset.mem_univ c)
  obtain ⟨c₀, h₀⟩ := hP
  have hc₀ : g c₀ = n + c₀.val := if_pos h₀
  have hlt : M < 2147483647 := lt_of_le_of_lt (hle c₀) (by have := c₀.isLt; omega)
  rcases (Finset.fold_min_le M).mp (le_refl M) with h | ⟨x, -, hx⟩
  · omega
  · have ex : g x = M := le_antisymm hx (hle x)
    have hPx : P x := by by_contra hn; have : g x = 2147483647 := if_neg hn; omega
    have hgx : g x = n + x.val := if_pos hPx
    refine ⟨x, hPx, fun c hc hPc => ?_, ?_⟩
    · have h1 := hle c
      rw [show g c = n + c.val from if_pos hPc, ← ex, hgx] at h1
      have : c.val < x.val := hc
      omega
    · rw [← ex, hgx]; exact word31_of (by have := x.isLt; omega)

section Second
variable (i : grid1.Coords) (x : Vec Ideal S32x8192 .f32) (k : Vec Ideal S32x8192 .i32) (m s : Vec Ideal S32x1 .f32)
  (X : Wide.Idx → EReal) (K : Wide.Idx → BitVec 1) (hx : ∀ r c, k0_pay3 i x k (ix2 r c) = cell X K r (8192 * (i 0).val + c.val))
  (hm : ∀ r, m (ix2 r 0) = top (cell X K r) 1000000) (hs : ∀ r, s (ix2 r 0) = mass (cell X K r) 1000000)

include hx hm hs in
/-- The block's normalised logits and its probabilities. -/
theorem norm_at (r : Fin 32) (c : Fin 8192) :
    k1_pay4 i m s x k (ix2 r c) = (cell X K r (8192 * (i 0).val + c.val) - lse (cell X K r) : EReal) := by
  have e : ∀ y : FVec Ideal S32x1 .f32, subf (k0_pay3 i x k) (broadcastTo S32x8192 y broadcasts_S32x1_S32x8192) (ix2 r c)
      = (cell X K r (8192 * (i 0).val + c.val) - y (ix2 r 0) : EReal) := fun y => by
    show (k0_pay3 i x k (ix2 r c) - broadcastTo S32x8192 y broadcasts_S32x1_S32x8192 (ix2 r c) : EReal) = _
    rw [col_spread, hx]
  refine (e (addf (shapeCast S32x1 m shapeCasts_S32x1_S32x1) (log (shapeCast S32x1 s shapeCasts_S32x1_S32x1)))).trans ?_
  rw [shapeCast_self, shapeCast_self]
  unfold lse
  rw [← hm, ← hs]; rfl

include hx hm hs in
theorem prob_at (r : Fin 32) (c : Fin 8192) :
    k1_pay5 i m s x k (ix2 r c) = Ideal.exp (cell X K r (8192 * (i 0).val + c.val) - lse (cell X K r)) := by
  rw [← norm_at i x k m s X K hx hm hs]; rfl

/-- A drawn score, from its parts. -/
theorem drawn (v15 : IVec S32x8192 1) (v21 v216 : FVec Ideal S32x8192 .f32) (j : S32x8192.Idx) :
    k1_pay47 v15 v21 v216 k1_pay46 j = Scalar.select (v15 j)
      (v21 j + (Ideal.ofBits .f32 0x00000000#32 - Ideal.log (Ideal.ofBits .f32 0x00000000#32 - Ideal.log (max tiny
        (v216 j * (Ideal.ofBits .f32 0x3F800000#32 - tiny) + tiny)))) : EReal)
      (FloatOps.subf (F := Ideal) (φ := .f32) (Scalar.ofBits .f32 0x00000000#32) (Named.named Cert.KernelIdeal.κ "largest" 0x7F7FFFFF#32)) :=
  rfl

/-- The block's scores as the body has them. -/
abbrev scores : FVec Ideal S32x8192 .f32 := k1_pay47 (k1_pay3 (F := Ideal) i k) (k1_pay4 i m s x k) (unif i) k1_pay46

include hx hm hs in
theorem score_at (r : Fin 32) (c : Fin 8192) : scores i x k m s (ix2 r c) = score X K r (8192 * (i 0).val + c.val) := by
  have e := drawn (k1_pay3 (F := Ideal) i k) (k1_pay4 i m s x k) (unif i) (ix2 r c)
  have eu : (unif (F := Ideal) i (ix2 r c) : EReal) = Ideal.ofBits .f32 (bits (draw 0#32 42#32 0#32 (k1_pay6 i (ix2 r c)))) - Ideal.ofBits .f32 0x3F800000#32 := unif_at i (ix2 r c)
  refine e.trans ?_
  rw [eu, counter_at, norm_at i x k m s X K hx hm hs, fill_bot, Ideal.ofBits_zero_f32, Ideal.ofBits_one_f32, zero_sub, zero_sub]
  unfold score
  have hc := hx r c
  rw [masked_eq] at hc
  have hc' : (Scalar.select (k1_pay3 (F := Ideal) i k (ix2 r c)) (x (ix2 r c)) (FloatOps.subf (F := Ideal) (φ := .f32) (Scalar.ofBits .f32 0x00000000#32)
      (Named.named Cert.KernelIdeal.κ "largest" 0x7F7FFFFF#32)) : EReal) = cell X K r (8192 * (i 0).val + c.val) := hc
  rw [fill_bot] at hc'
  generalize k1_pay3 (F := Ideal) i k (ix2 r c) = b at hc' ⊢
  rcases (show ∀ b : BitVec 1, b = 1#1 ∨ b = 0#1 by decide) b with rfl | rfl
  · rfl
  · have : cell X K r (8192 * (i 0).val + c.val) = ⊥ := hc'.symm
    rw [this, EReal.bot_sub, EReal.bot_add]; rfl

include hx hm hs in
theorem score_top (r : Fin 32) :
    k1_pay48 (k1_pay3 (F := Ideal) i k) (k1_pay4 i m s x k) (unif i) k1_pay46 (ix2 r 0) = blockTop (score X K r) (8192 * (i 0).val) 8192 := by
  refine (col_max (scores i x k m s) r).trans ?_
  unfold blockTop; congr 1; funext c; exact score_at i x k m s X K hx hm hs r c

/-- The chosen column, from its parts. -/
theorem moved_act (v10 : IVec S32x8192 32) (v15 : IVec S32x8192 1) (v21 v216 v218 : FVec Ideal S32x8192 .f32) (w : Vec Ideal S32x1 .f32)
    (a : Vec Ideal S32x1 .i32) (r : Fin 32) :
    k1_pay51 v10 v15 v21 v216 v218 w a (ix2 r 0) = Scalar.select (Ideal.cmp .ogt (k1_pay48 v15 v21 v216 v218 (ix2 r 0)) (w (ix2 r 0)))
      (Finset.univ.fold IntOp.minsi 2147483647#32 fun c : Fin 8192 =>
        Scalar.select (Ideal.cmp .oeq (k1_pay47 v15 v21 v216 v218 (ix2 r c)) (k1_pay48 v15 v21 v216 v218 (ix2 r 0))) (v10 (ix2 r c)) 2147483647#32)
      (a (ix2 r 0)) := by
  have g : ∀ (P : FVec Ideal S32x1 .f32) (Q : FVec Ideal S32x8192 .f32) (N : BitVec 32) (hn : N = IKind.minsi.neutral),
      select (cmpf .ogt P w) (shapeCast S32x1 (multiReductionI .minsi [1] S32 (select (cmpf .oeq Q (broadcastTo S32x8192 P broadcasts_S32x1_S32x8192))
          v10 (broadcast S32x8192 N)) N reduces_S32x8192_S32 hn) shapeCasts_S32_S32x1) a (ix2 r 0)
        = Scalar.select (Ideal.cmp .ogt (P (ix2 r 0)) (w (ix2 r 0)))
          (Finset.univ.fold IntOp.minsi N fun c : Fin 8192 => Scalar.select (Ideal.cmp .oeq (Q (ix2 r c)) (P (ix2 r 0))) (v10 (ix2 r c)) N)
          (a (ix2 r 0)) := fun P Q N hn => by
    refine congrArg (fun z => Scalar.select (Ideal.cmp .ogt (P (ix2 r 0)) (w (ix2 r 0))) z (a (ix2 r 0))) ?_
    refine (col_cast _ _ r).trans ((multiReductionI_eq_fold _ _ _ _ _ _).trans ((reduces_S32x8192_S32.fold_fiber_r2_a1 (ix1 r) IntOp.minsi N _).trans ?_))
    refine congrArg (fun f : Fin 8192 → BitVec 32 => Finset.univ.fold IntOp.minsi N f) (funext fun c => ?_)
    rw [← col_spread P broadcasts_S32x1_S32x8192 r c]
    rfl
  have ha : shapeCast S32x1 a shapeCasts_S32x1_S32x1 = a := shapeCast_self _ _
  unfold k1_pay51
  dsimp only
  rw [ha]
  exact g _ _ _ _

variable (w : Vec Ideal S32x1 .f32) (a : Vec Ideal S32x1 .i32) (hw : ∀ r, w (ix2 r 0) = top (score X K r) (8192 * (i 0).val))

include hx hm hs hw in
theorem next_best (r : Fin 32) : newMax i x k m s w (ix2 r 0) = top (score X K r) (8192 * (i 0).val + 8192) := by
  unfold newMax k1_pay1
  dsimp only
  rw [shapeCast_self]
  have e : k1_pay52 (k1_pay3 (F := Ideal) i k) (k1_pay4 i m s x k) (unif i) k1_pay46 w (ix2 r 0)
      = (max (w (ix2 r 0)) (k1_pay48 (k1_pay3 (F := Ideal) i k) (k1_pay4 i m s x k) (unif i) k1_pay46 (ix2 r 0)) : EReal) := rfl
  rw [e, score_top i x k m s X K hx hm hs, hw, top_add]

include hx hm hs hw in
theorem next_act (r : Fin 32) (j : ℕ) (ha : a (ix2 r 0) = BitVec.ofNat 32 j) (hj : Lead (score X K r) (8192 * (i 0).val) j) :
    ∃ j' : ℕ, newAct i x k m s w a (ix2 r 0) = BitVec.ofNat 32 j' ∧ Lead (score X K r) (8192 * (i 0).val + 8192) j' := by
  have hi : (i 0).val < 123 := (i 0).isLt
  have e : newAct i x k m s w a (ix2 r 0) = _ := moved_act (k1_pay2 i) (k1_pay3 (F := Ideal) i k) (k1_pay4 i m s x k) (unif i) k1_pay46 w a r
  rw [e]
  rw [score_top i x k m s X K hx hm hs, hw, ha]
  have eP : ∀ c : Fin 8192, Scalar.select (Ideal.cmp .oeq (scores i x k m s (ix2 r c)) (blockTop (score X K r) (8192 * (i 0).val) 8192)) (k1_pay2 i (ix2 r c)) 2147483647#32
      = if score X K r (8192 * (i 0).val + c.val) = blockTop (score X K r) (8192 * (i 0).val) 8192 then BitVec.ofNat 32 (8192 * (i 0).val + c.val) else 2147483647#32 := fun c => by
    rw [score_at i x k m s X K hx hm hs, pay2_at]
    unfold Ideal.cmp; dsimp only
    split
    · next h => rw [decide_eq_true h]; rfl
    · next h => rw [decide_eq_false h]; rfl
  rw [funext eP]
  unfold Ideal.cmp
  dsimp only
  by_cases hlt : top (score X K r) (8192 * (i 0).val) < blockTop (score X K r) (8192 * (i 0).val) 8192
  · classical
    obtain ⟨y, hy, hf, hv⟩ := least (n := 8192 * (i 0).val) (k := 8192)
      (fun c => score X K r (8192 * (i 0).val + c.val) = blockTop (score X K r) (8192 * (i 0).val) 8192)
      (by
        obtain ⟨c, -, h⟩ := Finset.exists_mem_eq_sup (Finset.univ : Finset (Fin 8192)) ⟨0, Finset.mem_univ _⟩ (fun c => score X K r (8192 * (i 0).val + c.val))
        exact ⟨c, h.symm⟩) (by omega)
    refine ⟨8192 * (i 0).val + y.val, ?_, lead_move hlt (by omega) hy (fun c h1 h2 h => ?_) (by have := y.isLt; omega)⟩
    · have s1 : ∀ x y : BitVec 32, Scalar.select (BitVec.ofBool true) x y = x := fun _ _ => rfl
      rw [decide_eq_true hlt, s1, ← hv]
    · have hc : c - 8192 * (i 0).val < 8192 := by have := y.isLt; omega
      refine hf ⟨c - 8192 * (i 0).val, hc⟩ (by show c - 8192 * (i 0).val < y.val; omega) ?_
      show score X K r (8192 * (i 0).val + (c - 8192 * (i 0).val)) = _
      rw [show 8192 * (i 0).val + (c - 8192 * (i 0).val) = c from by omega]; exact h
  · refine ⟨j, ?_, lead_keep 8192 hj hlt⟩
    rw [decide_eq_false hlt]; rfl
end Second

end Cert.Proof.Pass

end
-- ==== Proof.Invariants.lean ====
/- What the two kernels' accumulators hold after each point, over blocks whose allowed logits are a row's columns. -/
module

public import proofs.«01_k».proof.Proof.Payloads

@[expose] public section

noncomputable section

namespace Cert.Proof.Pass

open Cert.KernelIdeal Cert.KernelIdeal.Gen
open Idealize.ShloMosaic Cert.Proof.Rows Cert.Proof.Words

/-- The blocks of all points, read as the columns of `A` where `B` allows them. -/
def Cells (X : Fin cfg0.N → Vec Ideal S32x8192 .f32) (K : Fin cfg0.N → Vec Ideal S32x8192 .i32) (A : Wide.Idx → EReal) (B : Wide.Idx → BitVec 1) : Prop :=
  ∀ t r (c : Fin 8192), k0_pay3 (grid0.coords t) (X t) (K t) (ix2 r c) = cell A B r (8192 * t.val + c.val)

variable {X : Fin cfg0.N → Vec Ideal S32x8192 .f32} {K : Fin cfg0.N → Vec Ideal S32x8192 .i32} {A : Wide.Idx → EReal} {B : Wide.Idx → BitVec 1}

theorem start_top : ∀ r, (k0_pay1 (F := Ideal) (ix2 r 0) : EReal) = ⊥ := fun _ => ofBits_bot
theorem start_mass : ∀ r, (k0_pay2 (F := Ideal) (ix2 r 0) : EReal) = 0 := fun _ => Ideal.ofBits_zero_f32
theorem start_best : ∀ r, (k1_pay49 (F := Ideal) (ix2 r 0) : EReal) = ⊥ := fun _ => ofBits_bot

/-- The running maximum and the rescaled sum. -/
theorem stats_at (h : Cells X K A B) (ht : ∀ r n, top (cell A B r) n ≠ ⊤) : ∀ (n : ℕ) (hn : n < cfg0.N),
    (∀ r, (stats X K n hn).1 (ix2 r 0) = top (cell A B r) (8192 * n + 8192))
    ∧ ∀ r, (stats X K n hn).2 (ix2 r 0) = mass (cell A B r) (8192 * n + 8192)
  | 0, hn =>
    have hm : ∀ r, (k0_pay1 (F := Ideal) (ix2 r 0) : EReal) = top (cell A B r) (8192 * 0) := start_top
    have hs : ∀ r, (k0_pay2 (F := Ideal) (ix2 r 0) : EReal) = mass (cell A B r) (8192 * 0) := start_mass
    ⟨fun r => next_top _ _ _ _ (cell A B) (8192 * 0) (h ⟨0, hn⟩) hm r,
      fun r => next_mass _ _ _ _ _ (cell A B) (8192 * 0) (h ⟨0, hn⟩) hm hs (fun r => ht r _) r⟩
  | n + 1, hn =>
    have ih := stats_at h ht n (Nat.lt_of_succ_lt hn)
    ⟨fun r => next_top _ _ _ _ (cell A B) (8192 * (n + 1)) (h ⟨n + 1, hn⟩) ih.1 r,
      fun r => next_mass _ _ _ _ _ (cell A B) (8192 * (n + 1)) (h ⟨n + 1, hn⟩) ih.1 ih.2 (fun r => ht r _) r⟩

/-- The best score so far and the first column that has it. -/
theorem best_at (h : Cells X K A B) {M S : Vec Ideal S32x1 .f32} (hM : ∀ r, M (ix2 r 0) = top (cell A B r) 1000000)
    (hS : ∀ r, S (ix2 r 0) = mass (cell A B r) 1000000) : ∀ (n : ℕ) (hn : n < cfg1.N),
    (∀ r, (best M S X K n hn).1 (ix2 r 0) = top (score A B r) (8192 * n + 8192))
    ∧ ∀ r, ∃ j, (best M S X K n hn).2 (ix2 r 0) = BitVec.ofNat 32 j ∧ Lead (score A B r) (8192 * n + 8192) j
  | 0, hn => by
    have e : (grid1.coords ⟨0, hn⟩ 0).val = 0 := coord1 ⟨0, hn⟩
    have hc : ∀ r (c : Fin 8192), k0_pay3 (grid1.coords ⟨0, hn⟩) (X ⟨0, hn⟩) (K ⟨0, hn⟩) (ix2 r c) = cell A B r (8192 * (grid1.coords ⟨0, hn⟩ 0).val + c.val) :=
      fun r c => by rw [e]; exact h ⟨0, hn⟩ r c
    have hw : ∀ r, (k1_pay49 (F := Ideal) (ix2 r 0) : EReal) = top (score A B r) (8192 * (grid1.coords ⟨0, hn⟩ 0).val) := fun r => by rw [e]; exact start_best r
    have h1 := next_best (grid1.coords ⟨0, hn⟩) (X ⟨0, hn⟩) (K ⟨0, hn⟩) M S A B hc hM hS (k1_pay49 (F := Ideal)) hw
    have h2 := fun r => next_act (grid1.coords ⟨0, hn⟩) (X ⟨0, hn⟩) (K ⟨0, hn⟩) M S A B hc hM hS (k1_pay49 (F := Ideal)) k1_pay50 hw r 0 rfl (by rw [e]; exact lead_zero _)
    rw [e] at h1 h2
    have k := best_zero M S X K ⟨0, hn⟩ rfl
    dsimp only at k
    rw [k]
    dsimp only
    exact ⟨h1, h2⟩
  | n + 1, hn => by
    have ih := best_at h hM hS n (Nat.lt_of_succ_lt hn)
    have e : (grid1.coords ⟨n + 1, hn⟩ 0).val = n + 1 := coord1 ⟨n + 1, hn⟩
    have hc : ∀ r (c : Fin 8192), k0_pay3 (grid1.coords ⟨n + 1, hn⟩) (X ⟨n + 1, hn⟩) (K ⟨n + 1, hn⟩) (ix2 r c)
        = cell A B r (8192 * (grid1.coords ⟨n + 1, hn⟩ 0).val + c.val) :=
      fun r c => by rw [e]; exact h ⟨n + 1, hn⟩ r c
    have hw : ∀ r, (best M S X K n (Nat.lt_of_succ_lt hn)).1 (ix2 r 0) = top (score A B r) (8192 * (grid1.coords ⟨n + 1, hn⟩ 0).val) := fun r => by
      rw [e]; exact ih.1 r
    have k := best_pred M S X K ⟨n + 1, hn⟩ (Nat.succ_ne_zero n)
    simp only [Nat.add_sub_cancel] at k
    rw [k]
    dsimp only
    refine ⟨fun r => ?_, fun r => ?_⟩
    · have h1 := next_best (grid1.coords ⟨n + 1, hn⟩) (X ⟨n + 1, hn⟩) (K ⟨n + 1, hn⟩) M S A B hc hM hS (best M S X K n (Nat.lt_of_succ_lt hn)).1 hw r
      rw [e] at h1
      exact h1
    · obtain ⟨j, hj, hl⟩ := ih.2 r
      have h2 := next_act (grid1.coords ⟨n + 1, hn⟩) (X ⟨n + 1, hn⟩) (K ⟨n + 1, hn⟩) M S A B hc hM hS (best M S X K n (Nat.lt_of_succ_lt hn)).1 (best M S X K n (Nat.lt_of_succ_lt hn)).2 hw r j hj (by rw [e]; exact hl)
      rw [e] at h2
      exact h2

/-! ## The whole row -/

variable (A B)

theorem top_full (r : Fin 32) : top (cell A B r) (8192 * 122 + 8192) = top (cell A B r) 1000000 :=
  top_pad _ (by omega) fun c hc => along_ge _ _ hc

theorem mass_full (r : Fin 32) : mass (cell A B r) (8192 * 122 + 8192) = mass (cell A B r) 1000000 :=
  mass_pad _ (by omega) fun c hc => along_ge _ _ hc

theorem lead_full (r : Fin 32) (j : ℕ) (h : Lead (score A B r) (8192 * 122 + 8192) j) : Lead (score A B r) 1000000 j := by
  have e : top (score A B r) (8192 * 122 + 8192) = top (score A B r) 1000000 := top_pad _ (by omega) fun c hc => score_ge A B r c hc
  unfold Lead at h ⊢; rw [← e]; exact h

end Cert.Proof.Pass

end
-- ==== Proof.Arrays.lean ====
/- The arrays the kernel leaves, from any arguments with a finite top in every row: the probabilities and the chosen columns. -/
module

public import proofs.«01_k».proof.Proof.Invariants
public import proofs.«01_k».proof.Proof.Regs
public import Idealize.ShloMosaic.Lib.Pipeline.ValueKit

@[expose] public section

noncomputable section

namespace Cert.Proof.Pass

open Cert.KernelIdeal Cert.KernelIdeal.Gen
open Idealize.ShloMosaic Cert.Proof.Rows Cert.Proof.Words
open Idealize.ShloMosaic.TcCoe
open Idealize.ShloMosaic.Pipeline (Window)

/-! ## Where a point's block lies in the array -/

theorem index0_0 : ∀ t : Fin cfg0.N, win0_0.index t = ![0, t.val] := (by decide +kernel : ∀ t : Fin grid0.N, _)
theorem index0_1 : ∀ t : Fin cfg0.N, win0_1.index t = ![0, t.val] := (by decide +kernel : ∀ t : Fin grid0.N, _)
theorem index1_0 : ∀ t : Fin cfg1.N, win1_0.index t = ![0, t.val] := (by decide +kernel : ∀ t : Fin grid1.N, _)
theorem index1_1 : ∀ t : Fin cfg1.N, win1_1.index t = ![0, t.val] := (by decide +kernel : ∀ t : Fin grid1.N, _)
theorem index1_4 : ∀ t : Fin cfg1.N, win1_4.index t = ![0, t.val] := (by decide +kernel : ∀ t : Fin grid1.N, _)

/-- The probabilities' blocks make up their array; each accumulator is written back once, at the last point. -/
theorem covers1_4 : win1_4.Covers := by decide +kernel
theorem whole0_2 : win0_2.WholeAt ⟨122, last_lt⟩ := by decide +kernel
theorem whole0_3 : win0_3.WholeAt ⟨122, last_lt⟩ := by decide +kernel
theorem whole1_5 : win1_5.WholeAt ⟨122, last_lt⟩ := by decide +kernel

theorem place0_0 (t : Fin cfg0.N) (y : (win0_0.xblock (grid0.coords t)).Idx) (r : Fin 32) (c : Fin 1000000) (h0 : (y 0).val = r.val)
    (h1 : 8192 * t.val + (y 1).val = c.val) : (win0_0.blk t).view.emb y = ix2 r c := by
  funext a; apply Fin.ext
  fin_cases a
  · refine (Window.rect_emb_val win0_0 t y 0 rfl).trans ?_
    rw [index0_0]; show 0 * 32 + (y 0).val = r.val; omega
  · refine (Window.rect_emb_val win0_0 t y 1 rfl).trans ?_
    rw [index0_0]; show t.val * 8192 + (y 1).val = c.val; omega

theorem place0_1 (t : Fin cfg0.N) (y : (win0_1.xblock (grid0.coords t)).Idx) (r : Fin 32) (c : Fin 1000000) (h0 : (y 0).val = r.val)
    (h1 : 8192 * t.val + (y 1).val = c.val) : (win0_1.blk t).view.emb y = ix2 r c := by
  funext a; apply Fin.ext
  fin_cases a
  · refine (Window.rect_emb_val win0_1 t y 0 rfl).trans ?_
    rw [index0_1]; show 0 * 32 + (y 0).val = r.val; omega
  · refine (Window.rect_emb_val win0_1 t y 1 rfl).trans ?_
    rw [index0_1]; show t.val * 8192 + (y 1).val = c.val; omega

theorem place1_0 (t : Fin cfg1.N) (y : (win1_0.xblock (grid1.coords t)).Idx) (r : Fin 32) (c : Fin 1000000) (h0 : (y 0).val = r.val)
    (h1 : 8192 * t.val + (y 1).val = c.val) : (win1_0.blk t).view.emb y = ix2 r c := by
  funext a; apply Fin.ext
  fin_cases a
  · refine (Window.rect_emb_val win1_0 t y 0 rfl).trans ?_
    rw [index1_0]; show 0 * 32 + (y 0).val = r.val; omega
  · refine (Window.rect_emb_val win1_0 t y 1 rfl).trans ?_
    rw [index1_0]; show t.val * 8192 + (y 1).val = c.val; omega

theorem place1_1 (t : Fin cfg1.N) (y : (win1_1.xblock (grid1.coords t)).Idx) (r : Fin 32) (c : Fin 1000000) (h0 : (y 0).val = r.val)
    (h1 : 8192 * t.val + (y 1).val = c.val) : (win1_1.blk t).view.emb y = ix2 r c := by
  funext a; apply Fin.ext
  fin_cases a
  · refine (Window.rect_emb_val win1_1 t y 0 rfl).trans ?_
    rw [index1_1]; show 0 * 32 + (y 0).val = r.val; omega
  · refine (Window.rect_emb_val win1_1 t y 1 rfl).trans ?_
    rw [index1_1]; show t.val * 8192 + (y 1).val = c.val; omega

theorem place1_4 (t : Fin cfg1.N) (y : (win1_4.xblock (grid1.coords t)).Idx) (r : Fin 32) (c : Fin 1000000) (h0 : (y 0).val = r.val)
    (h1 : 8192 * t.val + (y 1).val = c.val) : (win1_4.blk t).view.emb y = ix2 r c := by
  funext a; apply Fin.ext
  fin_cases a
  · refine (Window.rect_emb_val win1_4 t y 0 rfl).trans ?_
    rw [index1_4]; show 0 * 32 + (y 0).val = r.val; omega
  · refine (Window.rect_emb_val win1_4 t y 1 rfl).trans ?_
    rw [index1_4]; show t.val * 8192 + (y 1).val = c.val; omega

/-- A block at a column inside the array is the part moved there. -/
theorem block_in {e : EltTy} (z : Elt Ideal e) (t : Fin cfg0.N) (g : (win0_0.xblock (grid0.coords t)).Idx → Elt Ideal e) (r : Fin 32) (c : Fin 8192)
    (h : 8192 * t.val + c.val < 1000000) : ∃ y : (win0_0.xblock (grid0.coords t)).Idx, (y 0).val = r.val ∧ (y 1).val = c.val
      ∧ block z (grid0.coords t) g (ix2 r c) = g y := by
  have hm := (moved_of (grid0.coords t) (ix2 r c)).mpr (by rw [coord0]; exact h)
  unfold block Window.fill
  rw [dif_pos hm]
  exact ⟨_, rfl, rfl, rfl⟩

/-- A mask's bit as a word, read back. -/
theorem bit_back (b : BitVec 1) : IntOp.cmpi .ne (b.setWidth 32) 0#32 = b := by revert b; decide

/-- Blocks cut from the logits and from the mask's words hold the row's allowed logits. -/
theorem cell_at (t : Fin cfg0.N) (x : Vec Ideal S32x8192 .f32) (k : Vec Ideal S32x8192 .i32) (A : Wide.Idx → EReal) (B : Wide.Idx → BitVec 1) (r : Fin 32)
    (c : Fin 8192) (hx : ∀ h : 8192 * t.val + c.val < 1000000, x (ix2 r c) = A (ix2 r ⟨8192 * t.val + c.val, h⟩))
    (hk : ∀ h : 8192 * t.val + c.val < 1000000, k (ix2 r c) = (B (ix2 r ⟨8192 * t.val + c.val, h⟩)).setWidth 32) :
    k0_pay3 (grid0.coords t) x k (ix2 r c) = cell A B r (8192 * t.val + c.val) := by
  rw [masked_eq]
  have e : ∀ b : IVec S32x8192 1, select b x (subf (F := Ideal) (broadcast S32x8192 (Scalar.ofBits .f32 0x00000000#32))
      (broadcast S32x8192 (Named.named Cert.KernelIdeal.κ "largest" 0x7F7FFFFF#32))) (ix2 r c) = Scalar.select (b (ix2 r c)) (x (ix2 r c)) (⊥ : EReal) := fun b => by
    rw [← fill_bot]; rfl
  rw [e, valid_at, coord0]
  show Scalar.select (if 8192 * t.val + c.val < 1000000 then IntOp.cmpi .ne (k (ix2 r c)) 0#32 else 0#1) (x (ix2 r c)) (⊥ : EReal) = _
  by_cases h : 8192 * t.val + c.val < 1000000
  · have hb : IntOp.cmpi .ne (k (ix2 r c)) 0#32 = B (ix2 r ⟨8192 * t.val + c.val, h⟩) := by rw [hk h, bit_back]
    rw [if_pos h, hb, hx h]
    exact (along_lt (logit A B r) ⟨8192 * t.val + c.val, h⟩).symm
  · rw [if_neg h]
    exact (along_ge _ _ (by omega)).symm

section Blocks
variable (V : (c : Dev nD) → (b : Ref sig .tc) → Buf (Elt Ideal) ((c : Thread nD τ).loc b)) (d : Dev nD) (A : Wide.Idx → EReal) (B : Wide.Idx → BitVec 1)
  (hA : V d main_arg0 = A)

include hA in
theorem cells0 (hB : ∀ j, V d main_v0 j = (B j).setWidth 32) : Cells (xblk V d) (kblk V d) A B := fun t r c =>
  cell_at t _ _ A B r c
    (fun h => by
      obtain ⟨y, h0, h1, e⟩ := block_in (e := .f32) (Scalar.ofBits (F := Ideal) .f32 0#32) t (xcut V d t) r c h
      refine e.trans ?_
      rw [← hA]
      exact congrArg (V d main_arg0) (place0_0 t y r ⟨_, h⟩ h0 (by rw [h1])))
    (fun h => by
      obtain ⟨y, h0, h1, e⟩ := block_in (e := .i32) (0#32 : BitVec 32) t (kcut V d t) r c h
      refine e.trans ?_
      rw [← hB]
      exact congrArg (V d main_v0) (place0_1 t y r ⟨_, h⟩ h0 (by rw [h1])))

include hA in
theorem cells1 (hB : ∀ j, V d main_v2 j = (B j).setWidth 32) : Cells (xblk1 V d) (kblk1 V d) A B := fun t r c =>
  cell_at t _ _ A B r c
    (fun h => by
      obtain ⟨y, h0, h1, e⟩ := block_in (e := .f32) (Scalar.ofBits (F := Ideal) .f32 0#32) t (xcut1 V d t) r c h
      refine e.trans ?_
      rw [← hA]
      exact congrArg (V d main_arg0) (place1_0 t y r ⟨_, h⟩ h0 (by rw [h1])))
    (fun h => by
      obtain ⟨y, h0, h1, e⟩ := block_in (e := .i32) (0#32 : BitVec 32) t (kcut1 V d t) r c h
      refine e.trans ?_
      rw [← hB]
      exact congrArg (V d main_v2) (place1_1 t y r ⟨_, h⟩ h0 (by rw [h1])))
end Blocks

/-! ## The arrays -/

section Arrays
variable (V : (c : Dev nD) → (b : Ref sig .tc) → Buf (Elt Ideal) ((c : Thread nD τ).loc b)) (d : Dev nD) (A : Wide.Idx → EReal) (B : Wide.Idx → BitVec 1)

/-- The two statistics' arrays after the first kernel. -/
theorem tops_array (h : Cells (xblk V d) (kblk V d) A B) (ht : ∀ r n, top (cell A B r) n ≠ ⊤) (r : Fin 32) :
    ((dat0 V d).arrAt 2 cfg0.N : S32x1.Idx → EReal) (ix2 r 0) = top (cell A B r) 1000000 := by
  refine ((dat0 V d).arrAt_emb_eq_after_last 2 ⟨122, last_lt⟩ whole0_2 (ix2 r 0)).trans ?_
  exact ((stats_at h ht 122 last_lt).1 r).trans (top_full A B r)

theorem masses_array (h : Cells (xblk V d) (kblk V d) A B) (ht : ∀ r n, top (cell A B r) n ≠ ⊤) (r : Fin 32) :
    ((dat0 V d).arrAt 3 cfg0.N : S32x1.Idx → EReal) (ix2 r 0) = mass (cell A B r) 1000000 := by
  refine ((dat0 V d).arrAt_emb_eq_after_last 3 ⟨122, last_lt⟩ whole0_3 (ix2 r 0)).trans ?_
  exact ((stats_at h ht 122 last_lt).2 r).trans (mass_full A B r)

/-- The chosen columns' array after the second kernel. -/
theorem acts_array (h : Cells (xblk1 V d) (kblk1 V d) A B) (hM : ∀ r, mrow V d (ix2 r 0) = top (cell A B r) 1000000)
    (hS : ∀ r, srow V d (ix2 r 0) = mass (cell A B r) 1000000) (r : Fin 32) :
    ∃ j, ((dat1 V d).arrAt 5 cfg1.N : S32x1.Idx → BitVec 32) (ix2 r 0) = BitVec.ofNat 32 j ∧ Lead (score A B r) 1000000 j := by
  have e : ∀ t : Fin cfg1.N, win1_5.WholeAt t → ((dat1 V d).arrAt 5 cfg1.N : S32x1.Idx → BitVec 32) (ix2 r 0) = (bestAt V d t.val t.isLt).2 (ix2 r 0) :=
    fun t w => (dat1 V d).arrAt_emb_eq_after_last 5 t w (ix2 r 0)
  obtain ⟨j, hj, hl⟩ := (best_at h hM hS 122 last_lt).2 r
  rw [e _ whole1_5]
  exact ⟨j, hj, lead_full A B r j hl⟩

/-- The probabilities, as an array. -/
def probsOf (A : Wide.Idx → EReal) (B : Wide.Idx → BitVec 1) : Wide.Idx → EReal := fun j => Ideal.exp (logit A B (j 0) (j 1) - lse (cell A B (j 0)))

theorem probs_array (h : Cells (xblk1 V d) (kblk1 V d) A B) (hM : ∀ r, mrow V d (ix2 r 0) = top (cell A B r) 1000000)
    (hS : ∀ r, srow V d (ix2 r 0) = mass (cell A B r) 1000000) :
    (dat1 V d).arrAt 4 cfg1.N = probsOf A B := by
  refine (dat1 V d).arrAt_eq_of_covers 4 (probsOf A B) covers1_4 fun t _ y => ?_
  have hy0 : (y 0).val < 32 := Nat.lt_of_lt_of_le (y 0).isLt (win1_4.xsize_le (grid1.coords t) 0)
  have hy1 : (y 1).val < 8192 := Nat.lt_of_lt_of_le (y 1).isLt (win1_4.xsize_le (grid1.coords t) 1)
  have hin : 8192 * t.val + (y 1).val < 1000000 := by
    have h1 := ((win1_4.blk t).view.emb y 1).isLt
    have h2 : ((win1_4.blk t).view.emb y 1).val = t.val * 8192 + (y 1).val := by
      refine (Window.rect_emb_val win1_4 t y 1 rfl).trans ?_
      rw [index1_4]; rfl
    have h3 : ((win1_4.blk t).view.emb y 1).val < 1000000 := h1
    omega
  have hp : (win1_4.blk t).view.emb y = ix2 (⟨(y 0).val, hy0⟩ : Fin 32) (⟨8192 * t.val + (y 1).val, hin⟩ : Fin 1000000) := place1_4 t y _ _ rfl rfl
  have hc : ∀ r (c : Fin 8192), k0_pay3 (grid1.coords t) (xblk1 V d t) (kblk1 V d t) (ix2 r c) = cell A B r (8192 * (grid1.coords t 0).val + c.val) :=
    fun r c => by rw [coord1]; exact h t r c
  have hv := prob_at (grid1.coords t) (xblk1 V d t) (kblk1 V d t) (mrow V d) (srow V d) A B hc hM hS ⟨(y 0).val, hy0⟩ ⟨(y 1).val, hy1⟩
  rw [coord1] at hv
  have hj : win1_4.xinj (grid1.coords t) y = ix2 (⟨(y 0).val, hy0⟩ : Fin 32) (⟨(y 1).val, hy1⟩ : Fin 8192) := by
    funext a; apply Fin.ext; fin_cases a <;> rfl
  have e : pblk V d t (win1_4.xinj (grid1.coords t) y) = probsOf A B ((win1_4.blk t).view.emb y) := by
    rw [hj, hp]
    refine hv.trans ?_
    unfold probsOf
    rw [show cell A B ⟨(y 0).val, hy0⟩ (8192 * t.val + (y 1).val) = logit A B ⟨(y 0).val, hy0⟩ ⟨8192 * t.val + (y 1).val, hin⟩ from along_lt (logit A B _) ⟨_, hin⟩]
    rfl
  exact e
end Arrays

end Cert.Proof.Pass

end
-- ==== Proof.KernelValue.lean ====
/- What the kernel's two results hold at the end of its run, from the arguments it started with. -/
module

public import proofs.«01_k».proof.Proof.Arrays
public import Idealize.ShloMosaic.Lib.StableHlo.RunRead

@[expose] public section

noncomputable section

namespace Cert.Proof.Pass

open Cert.KernelIdeal Cert.KernelIdeal.Gen
open Idealize.ShloMosaic Cert.Proof.Rows Cert.Proof.Words
open Idealize.ShloMosaic.TcCoe Idealize.ShloMosaic.StableHlo
open Idealize.ShloMosaic.Pipeline (Window)

/-- A statistic's block is its whole array. -/
theorem index1_2 : ∀ t : Fin cfg1.N, win1_2.index t = ![0, 0] := (by decide +kernel : ∀ t : Fin grid1.N, _)
theorem index1_3 : ∀ t : Fin cfg1.N, win1_3.index t = ![0, 0] := (by decide +kernel : ∀ t : Fin grid1.N, _)

theorem place1_2 (t : Fin cfg1.N) (r : Fin 32) : (win1_2.blk t).view.emb (ix2 r (0 : Fin 1)) = ix2 r (0 : Fin 1) := by
  funext a; apply Fin.ext
  fin_cases a
  · refine (Window.rect_emb_val win1_2 t (ix2 r (0 : Fin 1)) 0 rfl).trans ?_
    rw [index1_2]; show 0 * 32 + r.val = r.val; omega
  · refine (Window.rect_emb_val win1_2 t (ix2 r (0 : Fin 1)) 1 rfl).trans ?_
    rw [index1_2]; rfl

theorem place1_3 (t : Fin cfg1.N) (r : Fin 32) : (win1_3.blk t).view.emb (ix2 r (0 : Fin 1)) = ix2 r (0 : Fin 1) := by
  funext a; apply Fin.ext
  fin_cases a
  · refine (Window.rect_emb_val win1_3 t (ix2 r (0 : Fin 1)) 0 rfl).trans ?_
    rw [index1_3]; show 0 * 32 + r.val = r.val; omega
  · refine (Window.rect_emb_val win1_3 t (ix2 r (0 : Fin 1)) 1 rfl).trans ?_
    rw [index1_3]; rfl

variable (m : (ℓ : Loc nD τ sig) → Buf (Elt Ideal) ℓ) (d : Dev nD)

/-! ## The buffers each kernel is entered with -/

section Reads
variable {F : FTy → Type} [FloatOps F] [Named F] (V : Valuation τ sig (Elt F))

theorem read0_arg0 : after hostOps0 V (Proc.devRef .tc main_arg0) = V (Proc.devRef .tc main_arg0) := by after_reads_simp
theorem read0_arg1 : after hostOps0 V (Proc.devRef .tc main_arg1) = V (Proc.devRef .tc main_arg1) := by after_reads_simp
theorem read0_v0 : after hostOps0 V (Proc.devRef .tc main_v0) = extui 32 (V (Proc.devRef .tc main_arg1)) natLt_1_32 := by after_reads_simp
theorem read1_arg0 : after hostOps1 V (Proc.devRef .tc main_arg0) = V (Proc.devRef .tc main_arg0) := by after_reads_simp
theorem read1_v1_0 : after hostOps1 V (Proc.devRef .tc main_v1_0) = V (Proc.devRef .tc main_v1_0) := by after_reads_simp
theorem read1_v1_1 : after hostOps1 V (Proc.devRef .tc main_v1_1) = V (Proc.devRef .tc main_v1_1) := by after_reads_simp
theorem read1_v2 : after hostOps1 V (Proc.devRef .tc main_v2) = extui 32 (V (Proc.devRef .tc main_arg1)) natLt_1_32 := by after_reads_simp
theorem read2_v3_0 : after hostOps2 V (Proc.devRef .tc main_v3_0) = V (Proc.devRef .tc main_v3_0) := by after_reads_simp
theorem read2_v4 : after hostOps2 V (Proc.devRef .tc main_v4) = shapeCast S32 (V (Proc.devRef .tc main_v3_1)) shapeCasts_S32x1_S32 := by
  after_reads_simp
  rfl
end Reads

variable (A : Wide.Idx → EReal) (B : Wide.Idx → BitVec 1) (hA : m ((d : Thread nD τ).loc main_arg0) = A) (hB : m ((d : Thread nD τ).loc main_arg1) = B)
  (ht : ∀ r n, top (cell A B r) n ≠ ⊤)

include hA hB in
theorem enter0 : Cells (xblk (B1 m) d) (kblk (B1 m) d) A B := by
  refine cells0 (B1 m) d A B ((read0_arg0 _).trans hA) fun j => ?_
  rw [← hB]
  exact congrFun (read0_v0 (V0 m d)) j

include hA hB in
theorem enter1 : Cells (xblk1 (B3 m) d) (kblk1 (B3 m) d) A B := by
  refine cells1 (B3 m) d A B ((read1_arg0 _).trans ((W2_ne m d main_arg0 (by decide) (by decide)).trans ((read0_arg0 _).trans hA))) fun j => ?_
  have e : W2 m d main_arg1 = B := (W2_ne m d main_arg1 (by decide) (by decide)).trans ((read0_arg1 _).trans hB)
  rw [← e]
  exact congrFun (read1_v2 (W2 m d)) j

include hA hB ht in
theorem enter_tops (r : Fin 32) : mrow (B3 m) d (ix2 r 0) = top (cell A B r) 1000000 := by
  have e : mrow (B3 m) d (ix2 r 0) = (B3 m d main_v1_0 : S32x1.Idx → EReal) (ix2 r 0) := congrArg (B3 m d main_v1_0) (place1_2 pt0 r)
  have e2 : (B3 m d main_v1_0 : S32x1.Idx → EReal) = (dat0 (B1 m) d).arrAt 2 cfg0.N := (read1_v1_0 _).trans (W2_v1_0 m d)
  rw [e, e2]
  exact tops_array (B1 m) d A B (enter0 m d A B hA hB) ht r

include hA hB ht in
theorem enter_masses (r : Fin 32) : srow (B3 m) d (ix2 r 0) = mass (cell A B r) 1000000 := by
  have e : srow (B3 m) d (ix2 r 0) = (B3 m d main_v1_1 : S32x1.Idx → EReal) (ix2 r 0) := congrArg (B3 m d main_v1_1) (place1_3 pt0 r)
  have e2 : (B3 m d main_v1_1 : S32x1.Idx → EReal) = (dat0 (B1 m) d).arrAt 3 cfg0.N := (read1_v1_1 _).trans (W2_v1_1 m d)
  rw [e, e2]
  exact masses_array (B1 m) d A B (enter0 m d A B hA hB) ht r

/-! ## The results -/

include hA hB ht in
/-- The probabilities. -/
theorem probs_final : V5 m (outs m) d main_v3_0 = probsOf A B := by
  refine (read2_v3_0 _).trans ?_
  rw [V4_eq]
  exact (W4_v3_0 m d).trans (probs_array (B3 m) d A B (enter1 m d A B hA hB) (enter_tops m d A B hA hB ht) (enter_masses m d A B hA hB ht))

include hA hB ht in
/-- The chosen columns: in each row, the first of the best score. -/
theorem acts_final (r : Fin 32) : ∃ j, (V5 m (outs m) d main_v4 : S32.Idx → BitVec 32) (ix1 r) = BitVec.ofNat 32 j ∧ Lead (score A B r) 1000000 j := by
  obtain ⟨j, hj, hl⟩ := acts_array (B3 m) d A B (enter1 m d A B hA hB) (enter_tops m d A B hA hB ht) (enter_masses m d A B hA hB ht) r
  refine ⟨j, ?_, hl⟩
  have e : (V5 m (outs m) d main_v4 : S32.Idx → BitVec 32) = shapeCast S32 (W4 m d main_v3_1 : S32x1.Idx → BitVec 32) shapeCasts_S32x1_S32 := by
    refine (read2_v4 _).trans ?_
    rw [V4_eq]
  rw [e, W4_v3_1, ← hj]
  exact shapeCast_apply _ _ _ _ ((show ∀ r : Fin 32, (S32x1.rowMajor (ix2 r 0)).val = (S32.rowMajor (ix1 r)).val by decide) r)

end Cert.Proof.Pass

end
-- ==== Proof.RefWords.lean ====
/- The reference's random words, read off its line of operations group by group. -/
module

public import proofs.«01_k».proof.Proof.RefRun
public import proofs.«01_k».proof.Proof.Words
public import Idealize.ShloMosaic.Lib.StableHlo.ReadAt

@[expose] public section

noncomputable section

namespace Cert.Proof.Ref

open Cert.ReferenceIdeal Cert.ReferenceIdeal.Gen Cert.Proof.Words
open Idealize.ShloMosaic Idealize.ShloMosaic.TcCoe Idealize.ShloMosaic.StableHlo

variable {F : FTy → Type} [FloatOps F]

theorem after_cut {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih _

/-- `k` operations of the line, from position `n` on. -/
abbrev part (n k : ℕ) : List (HloOp τ sig (Elt F)) := ((ops (F := F)).drop n).take k

theorem upto_add (V : Valuation τ sig (Elt F)) (n k : ℕ) : upto ops V (n + k) = after (part n k) (upto ops V n) := by
  unfold upto part; rw [List.take_add, after_cut]

/-- The one index of a scalar. -/
abbrev pt : S_.Idx := fun a => a.elim0

/-- A scalar spread over the array is the scalar everywhere. -/
theorem spread {α : Type} (x : S_.Idx → α) (h) : broadcastInDim S32x1000000 ![] h x = fun _ => x pt :=
  funext fun _ => congrArg x (funext fun a => a.elim0)

section
variable (U : Valuation τ sig (Elt F)) (j : S32x1000000.Idx)

set_option maxHeartbeats 2000000 in
/-- The five groups, each from what stood before it. -/
theorem groups :
    ((after (part 77 43) U (Proc.devRef .tc main_call2_call0_call0_v35) j, after (part 77 43) U (Proc.devRef .tc main_call2_call0_call0_v39) j)
      = inject (U (Proc.devRef .tc main_call2_call0_v6) pt) (U (Proc.devRef .tc main_call2_call0_call0_v1) pt) 1#32
          (evens (U (Proc.devRef .tc main_call2_call0_call0_v3) j, U (Proc.devRef .tc main_call2_call0_call0_v5) j))) ∧
    ((after (part 120 43) U (Proc.devRef .tc main_call2_call0_call0_v69) j, after (part 120 43) U (Proc.devRef .tc main_call2_call0_call0_v73) j)
      = inject (U (Proc.devRef .tc main_call2_call0_call0_v1) pt) (U (Proc.devRef .tc main_call2_call0_v4) pt) 2#32
          (odds (U (Proc.devRef .tc main_call2_call0_call0_v35) j, U (Proc.devRef .tc main_call2_call0_call0_v39) j))) ∧
    ((after (part 163 43) U (Proc.devRef .tc main_call2_call0_call0_v103) j, after (part 163 43) U (Proc.devRef .tc main_call2_call0_call0_v107) j)
      = inject (U (Proc.devRef .tc main_call2_call0_v4) pt) (U (Proc.devRef .tc main_call2_call0_v6) pt) 3#32
          (evens (U (Proc.devRef .tc main_call2_call0_call0_v69) j, U (Proc.devRef .tc main_call2_call0_call0_v73) j))) ∧
    ((after (part 206 43) U (Proc.devRef .tc main_call2_call0_call0_v137) j, after (part 206 43) U (Proc.devRef .tc main_call2_call0_call0_v141) j)
      = inject (U (Proc.devRef .tc main_call2_call0_v6) pt) (U (Proc.devRef .tc main_call2_call0_call0_v1) pt) 4#32
          (odds (U (Proc.devRef .tc main_call2_call0_call0_v103) j, U (Proc.devRef .tc main_call2_call0_call0_v107) j))) ∧
    ((after (part 249 43) U (Proc.devRef .tc main_call2_call0_v18_0) j, after (part 249 43) U (Proc.devRef .tc main_call2_call0_v18_1) j)
      = inject (U (Proc.devRef .tc main_call2_call0_call0_v1) pt) (U (Proc.devRef .tc main_call2_call0_v4) pt) 5#32
          (evens (U (Proc.devRef .tc main_call2_call0_call0_v137) j, U (Proc.devRef .tc main_call2_call0_call0_v141) j))) := by
  refine ⟨?_, ?_, ?_, ?_, ?_⟩ <;> after_reads_simp <;>
    simp -implicitDefEqProofs only [StableHlo.TRef.toBuf, StableHlo.TRef.ofBuf, cast_cast, cast_eq] <;> repeat rw [spread]
  all_goals rfl
end

section
variable (V : Valuation τ sig (Elt F)) (j : S32x1000000.Idx)

/-- The two words of the seed, before they are put together. -/
theorem seed (l : List (HloOp τ sig (Elt F))) (hl : l.take 46 = (ops (F := F)).take 46) :
    (upto l V 46 (Proc.devRef .tc main_v30) = fun _ => 0#32) ∧ (upto l V 46 (Proc.devRef .tc main_v33) = fun _ => 42#32) := by
  unfold upto
  rw [hl]
  refine ⟨?_, ?_⟩ <;> after_reads_simp <;>
    try simp -implicitDefEqProofs only [StableHlo.TRef.toBuf, StableHlo.TRef.ofBuf, cast_cast, cast_eq]
  · rfl
  · exact funext fun _ => (by decide : 42#32 &&& 4294967295#32 = 42#32)

/-- The two key words, and the third made of them, before each group. -/
theorem keys (n : ℕ) (hn : n = 77 ∨ n = 120 ∨ n = 163 ∨ n = 206 ∨ n = 249) :
    upto ops V n (Proc.devRef .tc main_call2_call0_v4) pt = 0#32 ∧ upto ops V n (Proc.devRef .tc main_call2_call0_v6) pt = 42#32 ∧
    upto ops V n (Proc.devRef .tc main_call2_call0_call0_v1) pt = third 0#32 42#32 := by
  have hs := seed V (List.take n ops) (by rcases hn with rfl | rfl | rfl | rfl | rfl <;> rfl)
  unfold upto
  rcases hn with rfl | rfl | rfl | rfl | rfl <;> refine ⟨?_, ?_, ?_⟩ <;> after_reads_simp <;>
    simp -implicitDefEqProofs only [StableHlo.TRef.toBuf, StableHlo.TRef.ofBuf, cast_cast, cast_eq] <;>
    rw [hs.1, hs.2] <;> rfl

/-- The counter's two words, the key added. -/
theorem counters : (upto ops V 77 (Proc.devRef .tc main_call2_call0_call0_v3) j, upto ops V 77 (Proc.devRef .tc main_call2_call0_call0_v5) j)
      = pair0 0#32 42#32 0#32 (BitVec.ofNat 32 ((j 0).val * 1000000 + (j 1).val)) := by
  have hs := seed V (List.take 77 ops) rfl
  have e : (upto ops V 77 (Proc.devRef .tc main_call2_call0_call0_v3) j, upto ops V 77 (Proc.devRef .tc main_call2_call0_call0_v5) j)
      = (IntOp.addi (BitVec.setWidth 32 (IntOp.shrui .host (1000000#64 * BitVec.ofNat 64 (j 0).val + 1#64 * BitVec.ofNat 64 (j 1).val) 32#64)) 0#32,
        IntOp.addi (BitVec.setWidth 32 (1000000#64 * BitVec.ofNat 64 (j 0).val + 1#64 * BitVec.ofNat 64 (j 1).val)) 42#32) := by
    unfold upto
    after_reads_simp
    simp -implicitDefEqProofs only [StableHlo.TRef.toBuf, StableHlo.TRef.ofBuf, cast_cast, cast_eq]
    rw [hs.1, hs.2, spread, spread, spread, spread, spread]
    rfl
  have h0 : (j 0).val < 32 := (j 0).isLt
  have h1 : (j 1).val < 1000000 := (j 1).isLt
  have en : (1000000#64 * BitVec.ofNat 64 (j 0).val + 1#64 * BitVec.ofNat 64 (j 1).val).toNat = (j 0).val * 1000000 + (j 1).val := by
    simp only [BitVec.toNat_add, BitVec.toNat_mul, BitVec.toNat_ofNat]
    rw [Nat.mod_eq_of_lt (a := (j 0).val) (by omega), Nat.mod_eq_of_lt (a := (j 1).val) (by omega)]
    omega
  rw [e]
  unfold pair0 IntOp.shrui IntOp.addi
  rw [if_pos (by decide)]
  have hn : (j 0).val * 1000000 + (j 1).val < 4294967296 := by omega
  generalize (j 0).val * 1000000 + (j 1).val = n at en hn ⊢
  congr 1
  · apply BitVec.eq_of_toNat_eq
    simp only [BitVec.toNat_add, en, BitVec.toNat_ofNat, BitVec.toNat_setWidth, BitVec.toNat_ushiftRight, BitVec.ushiftRight_eq', Nat.shiftRight_eq_div_pow,
      Nat.reducePow, Nat.reduceMod]
    rw [Nat.div_eq_of_lt hn]
  · apply BitVec.eq_of_toNat_eq
    simp only [BitVec.toNat_add, en, BitVec.toNat_ofNat, BitVec.toNat_setWidth]

/-- The two halves of a random word are the drawn pair. -/
theorem words : IntOp.xori (upto ops V 292 (Proc.devRef .tc main_call2_call0_v18_0) j) (upto ops V 292 (Proc.devRef .tc main_call2_call0_v18_1) j)
      = draw 0#32 42#32 0#32 (BitVec.ofNat 32 ((j 0).val * 1000000 + (j 1).val)) := by
  have k1 := keys V 77 (by simp)
  have k2 := keys V 120 (by simp)
  have k3 := keys V 163 (by simp)
  have k4 := keys V 206 (by simp)
  have k5 := keys V 249 (by simp)
  have p1 := (groups (upto ops V 77) j).1
  have p2 := (groups (upto ops V 120) j).2.1
  have p3 := (groups (upto ops V 163) j).2.2.1
  have p4 := (groups (upto ops V 206) j).2.2.2.1
  have p5 := (groups (upto ops V 249) j).2.2.2.2
  rw [← upto_add, k1.2.1, k1.2.2, counters V j] at p1
  rw [← upto_add, k2.2.2, k2.1, p1] at p2
  rw [← upto_add, k3.1, k3.2.1, p2] at p3
  rw [← upto_add, k4.2.1, k4.2.2, p3] at p4
  rw [← upto_add, k5.2.2, k5.1, p4] at p5
  simp only [Nat.reduceAdd] at p5
  have h := congrArg (fun p : BitVec 32 × BitVec 32 => IntOp.xori p.1 p.2) p5
  exact h
end

end Cert.Proof.Ref

end
-- ==== Proof.RefArgmax.lean ====
/- The reference's index of a maximum: a fold over the row's pairs of a value and its column that keeps the greater value
   and, of two equal ones, the smaller column. -/
module

public import proofs.«01_k».proof.Proof.RefRun
public import proofs.«01_k».proof.Proof.Scores

@[expose] public section

noncomputable section

namespace Cert.Proof.Ref

open Cert.ReferenceIdeal Cert.ReferenceIdeal.Gen Cert.Proof.Rows
open Idealize.ShloMosaic

/-- The fold's step. -/
abbrev step : EReal × BitVec 32 → EReal × BitVec 32 → EReal × BitVec 32 := reducer_argmax_f32_i32 (F := Ideal)

/-- A column number as a word. -/
def word (p : EReal × ℕ) : EReal × BitVec 32 := (p.1, BitVec.ofNat 32 p.2)

theorem slt_ofNat {i k : ℕ} (hi : i < 2 ^ 31) (hk : k < 2 ^ 31) : IntOp.cmpi .slt (BitVec.ofNat 32 i) (BitVec.ofNat 32 k) = BitVec.ofBool (decide (i < k)) := by
  have e : ∀ n : ℕ, n < 2 ^ 31 → (BitVec.ofNat 32 n).toInt = n := fun n hn => by
    rw [BitVec.toInt_eq_toNat_cond, BitVec.toNat_ofNat, Nat.mod_eq_of_lt (by omega), if_pos (by omega)]
  unfold IntOp.cmpi
  simp only [BitVec.slt, e i hi, e k hk, Nat.cast_lt]

theorem step_word (p q : EReal × ℕ) (hp : p.2 < 2 ^ 31) (hq : q.2 < 2 ^ 31) :
    step (word p) (word q) = word (if q.1 < p.1 ∨ p.1 = q.1 ∧ p.2 < q.2 then p else q) := by
  have e : step (word p) (word q)
      = (Scalar.select (IntOp.ori (Ideal.cmp .ogt p.1 q.1) (Ideal.cmp .une p.1 p.1)) p.1 q.1,
        Scalar.select (IntOp.ori (IntOp.ori (Ideal.cmp .ogt p.1 q.1) (Ideal.cmp .une p.1 p.1))
          (IntOp.andi (Ideal.cmp .oeq p.1 q.1) (IntOp.cmpi .slt (BitVec.ofNat 32 p.2) (BitVec.ofNat 32 q.2)))) (BitVec.ofNat 32 p.2) (BitVec.ofNat 32 q.2)) := rfl
  rw [e, slt_ofNat hp hq]
  unfold Ideal.cmp IntOp.ori IntOp.andi Scalar.select word
  by_cases h1 : q.1 < p.1
  · simp [h1, h1.ne']
  · by_cases h2 : p.1 = q.1
    · by_cases h3 : p.2 < q.2
      · simp [h1, h2, h3]
      · simp [h1, h2, h3]
    · simp [h1, h2]

/-- What the fold over a list of pairs ends with. -/
theorem foldl_word (l : List (EReal × ℕ)) (hl : ∀ p ∈ l, p.2 < 2 ^ 31) (p : EReal × ℕ) (hp : p.2 < 2 ^ 31) :
    ∃ q : EReal × ℕ, (l.map word).foldl step (word p) = word q ∧ (q = p ∨ q ∈ l) ∧
      ∀ x, x = p ∨ x ∈ l → x.1 ≤ q.1 ∧ (x.1 = q.1 → q.2 ≤ x.2) := by
  induction l generalizing p with
  | nil => exact ⟨p, rfl, Or.inl rfl, fun x hx => by rcases hx with rfl | hx; exacts [⟨le_rfl, fun _ => le_rfl⟩, absurd hx (by simp)]⟩
  | cons b l ih =>
    have hb := hl b (by simp)
    rw [List.map_cons, List.foldl_cons, step_word p b hp hb]
    obtain ⟨q, e, hm, hq⟩ := ih (fun x hx => hl x (by simp [hx])) (if b.1 < p.1 ∨ p.1 = b.1 ∧ p.2 < b.2 then p else b) (by split <;> assumption)
    refine ⟨q, e, ?_, fun x hx => ?_⟩
    · rcases hm with h | h
      · split at h
        · exact Or.inl h
        · exact Or.inr (by simp [h])
      · exact Or.inr (by simp [h])
    · have h0 := hq _ (Or.inl rfl)
      have hpb : (p.1 ≤ q.1 ∧ (p.1 = q.1 → q.2 ≤ p.2)) ∧ (b.1 ≤ q.1 ∧ (b.1 = q.1 → q.2 ≤ b.2)) := by
        split at h0
        · next h =>
          refine ⟨h0, ?_, fun e => ?_⟩
          · rcases h with h | h
            · exact h.le.trans h0.1
            · exact h.1 ▸ h0.1
          · rcases h with h | h
            · exact absurd (e ▸ h) (not_lt.mpr h0.1)
            · exact (h0.2 (h.1.trans e)).trans h.2.le
        · next h =>
          have h3 : p.1 ≤ b.1 := not_lt.mp fun hh => h (Or.inl hh)
          refine ⟨⟨h3.trans h0.1, fun e => ?_⟩, h0⟩
          have h4 : p.1 = b.1 := le_antisymm h3 (e ▸ h0.1)
          have h5 : ¬ p.2 < b.2 := fun hh => h (Or.inr ⟨h4, hh⟩)
          exact (h0.2 (h4 ▸ e)).trans (by omega)
      rcases hx with rfl | hx
      · exact hpb.1
      · rcases List.mem_cons.mp hx with rfl | hx
        · exact hpb.2
        · exact hq x (Or.inr hx)

/-- The index of the maximum of a row, as its number. -/
theorem argmax_lead {m n : ℕ} (x : (⟨2, ![m, n]⟩ : Shape).Idx → EReal) (y : (⟨2, ![m, n]⟩ : Shape).Idx → BitVec 32) {u : Shape} (v : u.Idx → EReal) (w : u.Idx → BitVec 32)
    (h : (⟨2, ![m, n]⟩ : Shape).ReducesTo [1] ⟨1, ![m]⟩) (hu : 0 < u.numel) (r : (⟨1, ![m]⟩ : Shape).Idx) (hn : n ≤ 2 ^ 31)
    (hy : ∀ i, y i = BitVec.ofNat 32 (i 1).val) (hv : ∀ i, v i = ⊥) (hw : ∀ i, w i = 0#32) :
    ∃ k : ℕ, (Host.argReduce (F := Ideal) (φ := .f32) reducer_argmax_f32_i32 x y v w h hu r).2 = BitVec.ofNat 32 k
      ∧ Lead (along fun c : Fin n => x (ix2 (r 0) c)) n k := by
  set a := along fun c : Fin n => x (ix2 (r 0) c) with ha
  let l : List (EReal × ℕ) := ((List.finRange (⟨2, ![m, n]⟩ : Shape).numel).filter fun k => h.drop ((⟨2, ![m, n]⟩ : Shape).rowMajor.symm k) = r).map
    fun k => (x ((⟨2, ![m, n]⟩ : Shape).rowMajor.symm k), (((⟨2, ![m, n]⟩ : Shape).rowMajor.symm k) 1).val)
  have hl : ∀ p, p ∈ l ↔ ∃ c : Fin n, p = (x (ix2 (r 0) c), c.val) := fun p => by
    constructor
    · intro hp
      obtain ⟨k, hk, rfl⟩ := List.mem_map.mp hp
      have hd := of_decide_eq_true (List.mem_filter.mp hk).2
      obtain ⟨c, hc⟩ := (h.fiber_r2_a1 r _).mp hd
      exact ⟨c, by rw [← hc]; rfl⟩
    · rintro ⟨c, rfl⟩
      refine List.mem_map.mpr ⟨(⟨2, ![m, n]⟩ : Shape).rowMajor (ix2 (r 0) c), List.mem_filter.mpr ⟨List.mem_finRange _, decide_eq_true ?_⟩, ?_⟩
      · rw [Equiv.symm_apply_apply]; exact (h.fiber_r2_a1 r _).mpr ⟨c, rfl⟩
      · rw [Equiv.symm_apply_apply]; rfl
  have hf : Host.argReduceFiber x y h r = l.map word := by
    unfold Host.argReduceFiber
    rw [List.map_map]
    refine List.map_congr_left fun k _ => ?_
    show _ = word _
    unfold word; rw [hy]
  rw [Ideal.argReduce_eq_reduce2, Host.reduce2_eq_foldl_fiber, hf, hv, hw]
  obtain ⟨q, e, hm, hq⟩ := foldl_word l (fun p hp => by obtain ⟨c, rfl⟩ := (hl p).mp hp; have := c.isLt; show c.val < _; omega) (⊥, 0) (by norm_num)
  refine ⟨q.2, congrArg Prod.snd e, ?_⟩
  have hle : ∀ c < n, a c ≤ q.1 ∧ (a c = q.1 → q.2 ≤ c) := fun c hc => by
    have := hq (x (ix2 (r 0) ⟨c, hc⟩), c) (Or.inr ((hl _).mpr ⟨⟨c, hc⟩, rfl⟩))
    rwa [show a c = x (ix2 (r 0) ⟨c, hc⟩) from dif_pos hc]
  rcases hm with rfl | hm
  · have ht : top a n = ⊥ := le_bot_iff.mp (top_le fun c hc => (hle c hc).1)
    exact ⟨fun c hc => absurd hc (Nat.not_lt_zero c), Or.inr ⟨ht, rfl⟩⟩
  · obtain ⟨c, rfl⟩ := (hl q).mp hm
    have hc : a c.val = x (ix2 (r 0) c) := along_lt _ c
    have ht : top a n = x (ix2 (r 0) c) := le_antisymm (top_le fun d hd => (hle d hd).1) (hc ▸ le_top a c.isLt)
    refine ⟨fun d hd => ?_, Or.inl (hc.trans ht.symm)⟩
    have hd' := hle d (lt_trans hd c.isLt)
    rw [ht]
    exact lt_of_le_of_ne hd'.1 fun e => absurd (hd'.2 e) (not_le.mpr hd)

end Cert.Proof.Ref

end
-- ==== Proof.RefValue.lean ====
/- What the reference computes, element by element: its probabilities and its actions. -/
module

public import proofs.«01_k».proof.Proof.RefWords
public import proofs.«01_k».proof.Proof.RefArgmax

@[expose] public section

noncomputable section

namespace Cert.Proof.Ref

open Cert.ReferenceIdeal Cert.ReferenceIdeal.Gen Cert.Proof.Rows Cert.Proof.Words
open Idealize.ShloMosaic Idealize.ShloMosaic.TcCoe Idealize.ShloMosaic.StableHlo

/-- The host's maximum and sum over a row. -/
theorem host_max {m n : ℕ} {u : Shape} (x : (⟨2, ![m, n]⟩ : Shape).Idx → EReal) (v : u.Idx → EReal) (hv : ∀ i, v i = ⊥)
    (h : (⟨2, ![m, n]⟩ : Shape).ReducesTo [1] ⟨1, ![m]⟩) (hu : 0 < u.numel) (r : (⟨1, ![m]⟩ : Shape).Idx) :
    Host.reduce (FloatOps.maximumf (F := Ideal) (φ := .f32)) x v h hu r = Finset.univ.sup fun k : Fin n => x (ix2 (r 0) k) := by
  have e : Host.reduce (FloatOps.maximumf (F := Ideal) (φ := .f32)) x v h hu r = _ := Host.reduce_eq_fold (α := EReal) max x v h hu r
  rw [e, h.fold_fiber_r2_a1, hv]; rfl

theorem host_sum {m n : ℕ} {u : Shape} (x : (⟨2, ![m, n]⟩ : Shape).Idx → EReal) (v : u.Idx → EReal) (hv : ∀ i, v i = 0)
    (h : (⟨2, ![m, n]⟩ : Shape).ReducesTo [1] ⟨1, ![m]⟩) (hu : 0 < u.numel) (r : (⟨1, ![m]⟩ : Shape).Idx) :
    Host.reduceAdd (F := Ideal) (φ := .f32) x v h hu r = ∑ k : Fin n, x (ix2 (r 0) k) := by
  have e : Host.reduceAdd (F := Ideal) (φ := .f32) x v h hu r = Ideal.hostReduceAdd h x (v (Shape.Idx.first hu)) r := rfl
  rw [e, Ideal.hostReduceAdd_r2_a1, hv, zero_add]; rfl

/-- A column vector, and its spread over the rows, at an index. -/
theorem column {α : Type} (y : S32.Idx → α) (h) : broadcastInDim S32x1 ![0] h y = fun i => y (ix1 (i 0)) :=
  funext fun i => congrArg y (funext fun a => by match a with | ⟨0, _⟩ => rfl)
theorem across {α : Type} (y : S32x1.Idx → α) (h) : broadcastInDim S32x1000000 ![0, 1] h y = fun i => y (ix2 (i 0) 0) :=
  funext fun i => congrArg y (funext fun a => by match a with | ⟨0, _⟩ => rfl | ⟨1, _⟩ => rfl)

/-- The number a row is shifted by: its maximum where that is below the top. -/
def shift (t : EReal) : EReal := Scalar.select (Ideal.cmp .olt (max t (-t)) (Ideal.ofBits .f32 0x7F800000#32)) t (Ideal.ofBits .f32 0x00000000#32)

theorem shift_real (μ : ℝ) : shift μ = μ := by
  unfold shift
  have h : max (μ : EReal) (-(μ : EReal)) < ⊤ := max_lt (EReal.coe_lt_top μ) (by rw [← EReal.coe_neg]; exact EReal.coe_lt_top _)
  rw [ofBits_top]
  unfold Ideal.cmp Scalar.select
  simp [h]

section
variable (U : Valuation τ sig (Elt Ideal)) (j : S32x1000000.Idx)

theorem masked : after (part 0 3) U (Proc.devRef .tc main_v0) j
    = Scalar.select (U (Proc.devRef .tc main_arg1) j) (U (Proc.devRef .tc main_arg0) j) (⊥ : EReal) := by
  rw [← ofBits_bot]
  after_reads_simp
  simp -implicitDefEqProofs only [StableHlo.TRef.toBuf, StableHlo.TRef.ofBuf, cast_cast, cast_eq]
  rfl

/-- A row of an array of the reference's. -/
abbrev rowOf (x : S32x1000000.Idx → EReal) (j : S32x1000000.Idx) (c : Fin 1000000) : EReal := x (ix2 (j 0) c)

/-- The row maxima and the row sums. -/
theorem max0 (r : S32.Idx) : after (part 3 2) U (Proc.devRef .tc main_v1) r = Finset.univ.sup (rowOf (U (Proc.devRef .tc main_v0)) (ix2 (r 0) 0)) := by
  refine Eq.trans ?_ (host_max (m := 32) (n := 1000000) (U (Proc.devRef .tc main_v0)) (constant (F := Ideal) S_ .f32 0xFF800000#32) (fun _ => ofBits_bot) Facts₀.reducesTo_S32x1000000_S32_d1 Facts₀.h_S_ r)
  after_reads_simp
  try simp -implicitDefEqProofs only [StableHlo.TRef.toBuf, StableHlo.TRef.ofBuf, cast_cast, cast_eq]

theorem sum0 (r : S32.Idx) : after (part 16 2) U (Proc.devRef .tc main_v11) r = ∑ k : Fin 1000000, rowOf (U (Proc.devRef .tc main_v10)) (ix2 (r 0) 0) k := by
  refine Eq.trans ?_ (host_sum (m := 32) (n := 1000000) (U (Proc.devRef .tc main_v10)) (constant (F := Ideal) S_ .f32 0x00000000#32) (fun _ => Ideal.ofBits_zero_f32) Facts₀.reducesTo_S32x1000000_S32_d1 Facts₀.h_S_ r)
  after_reads_simp
  try simp -implicitDefEqProofs only [StableHlo.TRef.toBuf, StableHlo.TRef.ofBuf, cast_cast, cast_eq]

theorem max1 (r : S32.Idx) : after (part 23 2) U (Proc.devRef .tc main_v17) r = Finset.univ.sup (rowOf (U (Proc.devRef .tc main_v16)) (ix2 (r 0) 0)) := by
  refine Eq.trans ?_ (host_max (m := 32) (n := 1000000) (U (Proc.devRef .tc main_v16)) (constant (F := Ideal) S_ .f32 0xFF800000#32) (fun _ => ofBits_bot) Facts₀.reducesTo_S32x1000000_S32_d1 Facts₀.h_S_ r)
  after_reads_simp
  try simp -implicitDefEqProofs only [StableHlo.TRef.toBuf, StableHlo.TRef.ofBuf, cast_cast, cast_eq]

theorem sum1 (r : S32.Idx) : after (part 32 2) U (Proc.devRef .tc main_v24) r = ∑ k : Fin 1000000, rowOf (U (Proc.devRef .tc main_v23)) (ix2 (r 0) 0) k := by
  refine Eq.trans ?_ (host_sum (m := 32) (n := 1000000) (U (Proc.devRef .tc main_v23)) (constant (F := Ideal) S_ .f32 0x00000000#32) (fun _ => Ideal.ofBits_zero_f32) Facts₀.reducesTo_S32x1000000_S32_d1 Facts₀.h_S_ r)
  after_reads_simp
  try simp -implicitDefEqProofs only [StableHlo.TRef.toBuf, StableHlo.TRef.ofBuf, cast_cast, cast_eq]

/-- The exponentials and the quotients between them. -/
theorem exp0 (x : S32x1000000.Idx → EReal) (hx : U (Proc.devRef .tc main_v0) = x) :
    after (part 5 11) U (Proc.devRef .tc main_v10) j = Ideal.exp (x j - shift (U (Proc.devRef .tc main_v1) (ix1 (j 0)))) := by
  after_reads_simp
  try simp -implicitDefEqProofs only [StableHlo.TRef.toBuf, StableHlo.TRef.ofBuf, cast_cast, cast_eq]
  rw [hx]
  repeat rw [column]
  repeat rw [across]
  rfl

theorem shift0 (i : S32x1.Idx) : after (part 5 11) U (Proc.devRef .tc main_v7) i = shift (U (Proc.devRef .tc main_v1) (ix1 (i 0))) := by
  after_reads_simp
  try simp -implicitDefEqProofs only [StableHlo.TRef.toBuf, StableHlo.TRef.ofBuf, cast_cast, cast_eq]
  repeat rw [column]
  rfl

theorem norm0 (x : S32x1000000.Idx → EReal) (hx : U (Proc.devRef .tc main_v0) = x) (y : S32x1.Idx → EReal) (hy : U (Proc.devRef .tc main_v7) = y) :
    after (part 18 5) U (Proc.devRef .tc main_v16) j
    = x j - (Ideal.log (U (Proc.devRef .tc main_v11) (ix1 (j 0))) + y (ix2 (j 0) 0)) := by
  after_reads_simp
  try simp -implicitDefEqProofs only [StableHlo.TRef.toBuf, StableHlo.TRef.ofBuf, cast_cast, cast_eq]
  rw [hx, hy]
  repeat rw [column]
  repeat rw [across]
  rfl

theorem exp1 (x : S32x1000000.Idx → EReal) (hx : U (Proc.devRef .tc main_v16) = x) (y : S32.Idx → EReal) (hy : U (Proc.devRef .tc main_v17) = y) :
    after (part 25 7) U (Proc.devRef .tc main_v23) j = Ideal.exp (x j - max (Ideal.ofBits .f32 0xFF800000#32) (y (ix1 (j 0)))) := by
  after_reads_simp
  try simp -implicitDefEqProofs only [StableHlo.TRef.toBuf, StableHlo.TRef.ofBuf, cast_cast, cast_eq]
  rw [hx, hy]
  repeat rw [column]
  repeat rw [across]
  rfl

theorem div1 : after (part 34 3) U (Proc.devRef .tc main_v27) j = Ideal.div (U (Proc.devRef .tc main_v23) j) (U (Proc.devRef .tc main_v24) (ix1 (j 0))) := by
  after_reads_simp
  try simp -implicitDefEqProofs only [StableHlo.TRef.toBuf, StableHlo.TRef.ofBuf, cast_cast, cast_eq]
  repeat rw [column]
  repeat rw [across]
  rfl

/-- What each stretch leaves alone. -/
theorem kept0 : after (part 3 2) U (Proc.devRef .tc main_v0) = U (Proc.devRef .tc main_v0) := by after_reads_simp
theorem kept1 : after (part 5 11) U (Proc.devRef .tc main_v0) = U (Proc.devRef .tc main_v0) := by after_reads_simp
theorem kept2 : after (part 16 2) U (Proc.devRef .tc main_v0) = U (Proc.devRef .tc main_v0) := by after_reads_simp
theorem kept3 : after (part 16 2) U (Proc.devRef .tc main_v7) = U (Proc.devRef .tc main_v7) := by after_reads_simp
theorem kept4 : after (part 23 2) U (Proc.devRef .tc main_v16) = U (Proc.devRef .tc main_v16) := by after_reads_simp
theorem kept5 : after (part 32 2) U (Proc.devRef .tc main_v23) = U (Proc.devRef .tc main_v23) := by after_reads_simp

/-- The scores the actions are chosen by. -/
theorem scored (x : S32x1000000.Idx → EReal) (hx : U (Proc.devRef .tc main_v16) = x) (w : BitVec 32)
    (hw : IntOp.xori (U (Proc.devRef .tc main_call2_call0_v18_0) j) (U (Proc.devRef .tc main_call2_call0_v18_1) j) = w)
    (h1 : U (Proc.devRef .tc main_call2_call0_v1) = fun _ => tiny) (h2 : U (Proc.devRef .tc main_call2_call0_v2) = fun _ => (1 : EReal)) :
    after (part 292 23) U (Proc.devRef .tc main_v36) j
      = x j + -Ideal.log (-Ideal.log (max tiny ((Ideal.ofBits .f32 (bits w) - 1) * (1 - tiny) + tiny))) := by
  after_reads_simp
  try simp -implicitDefEqProofs only [StableHlo.TRef.toBuf, StableHlo.TRef.ofBuf, cast_cast, cast_eq]
  rw [hx, h1, h2, ← hw, ← Ideal.ofBits_one_f32]
  rfl

/-- The noise's bounds, before they are used. -/
theorem bounds : (upto ops U 292 (Proc.devRef .tc main_call2_call0_v1) = fun _ => tiny) ∧ (upto ops U 292 (Proc.devRef .tc main_call2_call0_v2) = fun _ => (1 : EReal)) := by
  rw [← Ideal.ofBits_one_f32]
  unfold upto
  refine ⟨?_, ?_⟩ <;> after_reads_simp <;>
    (try simp -implicitDefEqProofs only [StableHlo.TRef.toBuf, StableHlo.TRef.ofBuf, cast_cast, cast_eq]) <;> rfl

/-- The normalised logits stay while the noise is drawn. -/
theorem norm_kept : upto ops U 292 (Proc.devRef .tc main_v16) = upto ops U 23 (Proc.devRef .tc main_v16) := by
  rw [show (292 : ℕ) = 23 + 269 from rfl, upto_add]
  generalize upto ops U 23 = W
  after_reads_simp

/-- The probabilities stay until the end. -/
theorem prob_kept : after ops U (Proc.devRef .tc main_v27) = upto ops U 37 (Proc.devRef .tc main_v27) := by
  have h : after ops U = upto ops U (37 + 283) := rfl
  rw [h, upto_add]
  generalize upto ops U 37 = W
  after_reads_simp

/-- The action of a row leads its scores. -/
theorem chosen (x : S32x1000000.Idx → EReal) (hx : U (Proc.devRef .tc main_v36) = x) (r : S32.Idx) :
    ∃ k : ℕ, after (part 315 5) U (Proc.devRef .tc main_v37) r = BitVec.ofNat 32 k ∧ Lead (along fun c : Fin 1000000 => x (ix2 (r 0) c)) 1000000 k := by
  obtain ⟨k, e, h⟩ := argmax_lead (m := 32) (n := 1000000) x (iotaInDim S32x1000000 32 1) (constant (F := Ideal) S_ .f32 0xFF800000#32) (constantI S_ 32 0#32)
    Facts₀.reducesTo_S32x1000000_S32_d1 Facts₀.h_S_ r (by norm_num) (fun _ => rfl) (fun _ => ofBits_bot) (fun _ => rfl)
  refine ⟨k, ?_, h⟩
  rw [← e]
  after_reads_simp
  try simp -implicitDefEqProofs only [StableHlo.TRef.toBuf, StableHlo.TRef.ofBuf, cast_cast, cast_eq]
  rw [hx]
end

section
variable (V : Valuation τ sig (Elt Ideal)) (X : Wide.Idx → EReal) (K : Wide.Idx → BitVec 1)
  (hX : V (Proc.devRef .tc main_arg0) = X) (hK : V (Proc.devRef .tc main_arg1) = K)
  (μ : Fin 32 → ℝ) (hμ : ∀ r, top (cell X K r) 1000000 = μ r)

include hX hK in
theorem cells (r : Fin 32) (c : Fin 1000000) : upto ops V 3 (Proc.devRef .tc main_v0) (ix2 r c) = logit X K r c := by
  refine (congrFun (congrFun (upto_add V 0 3) _) _).trans ?_
  refine (masked (upto ops V 0) (ix2 r c)).trans ?_
  rw [show upto ops V 0 = V from rfl, hX, hK]; rfl

include hX hK hμ in
/-- The normalised logits. -/
theorem norms (r : Fin 32) (c : Fin 1000000) :
    upto ops V 23 (Proc.devRef .tc main_v16) (ix2 r c) = logit X K r c - lse (cell X K r) := by
  have a := cells V X K hX hK
  have t : ∀ r, upto ops V 5 (Proc.devRef .tc main_v1) (ix1 r) = (μ r : EReal) := fun r => by
    refine (congrFun (congrFun (upto_add V 3 2) _) _).trans ((max0 _ _).trans ?_)
    rw [← hμ, top_along]
    exact congrArg _ (funext fun c => a r c)
  have a5 : upto ops V 5 (Proc.devRef .tc main_v0) = upto ops V 3 (Proc.devRef .tc main_v0) :=
    (congrFun (upto_add V 3 2) _).trans (kept0 _)
  have e : ∀ r c, upto ops V 16 (Proc.devRef .tc main_v10) (ix2 r c) = Ideal.exp (logit X K r c - (μ r : EReal)) := fun r c => by
    refine (congrFun (congrFun (upto_add V 5 11) _) _).trans ((exp0 _ _ _ a5).trans ?_)
    rw [a r c]
    refine congrArg (fun z => Ideal.exp (logit X K r c - z)) ?_
    exact (congrArg shift (t r)).trans (shift_real _)
  have a16 : upto ops V 16 (Proc.devRef .tc main_v0) = upto ops V 3 (Proc.devRef .tc main_v0) :=
    (congrFun (upto_add V 5 11) _).trans ((kept1 _).trans a5)
  have s16 : ∀ r, upto ops V 16 (Proc.devRef .tc main_v7) (ix2 r 0) = (μ r : EReal) := fun r => by
    refine (congrFun (congrFun (upto_add V 5 11) _) _).trans ((shift0 _ _).trans ?_)
    exact (congrArg shift (t r)).trans (shift_real _)
  have g : ∀ r, upto ops V 18 (Proc.devRef .tc main_v11) (ix1 r) = mass (cell X K r) 1000000 := fun r => by
    refine (congrFun (congrFun (upto_add V 16 2) _) _).trans ((sum0 _ _).trans ?_)
    rw [mass_along, hμ]
    exact congrArg (fun f : Fin 1000000 → EReal => ∑ k, f k) (funext fun c => e r c)
  have a18 : upto ops V 18 (Proc.devRef .tc main_v0) = upto ops V 3 (Proc.devRef .tc main_v0) :=
    (congrFun (upto_add V 16 2) _).trans ((kept2 _).trans a16)
  have s18 : upto ops V 18 (Proc.devRef .tc main_v7) = upto ops V 16 (Proc.devRef .tc main_v7) :=
    (congrFun (upto_add V 16 2) _).trans (kept3 _)
  refine (congrFun (congrFun (upto_add V 18 5) _) _).trans ((norm0 _ _ _ a18 _ s18).trans ?_)
  rw [a r c]
  unfold lse
  rw [hμ, ← g r, ← s16 r, add_comm]
  rfl

include hX hK hμ in
/-- The reference's probabilities. -/
theorem probs (r : Fin 32) (c : Fin 1000000) :
    after ops V (Proc.devRef .tc main_v27) (ix2 r c) = Ideal.exp (logit X K r c - lse (cell X K r)) := by
  have n := norms V X K hX hK μ hμ
  obtain ⟨σ, hσ, eσ⟩ := mass_pos _ _ _ (hμ r)
  obtain ⟨l, hl⟩ : ∃ l : ℝ, lse (cell X K r) = l := ⟨μ r + Real.log σ, by
    unfold lse; rw [hμ, eσ, EReal.coe_add]; exact congrArg _ (if_neg (not_le.mpr hσ))⟩
  have n' : ∀ c, upto ops V 23 (Proc.devRef .tc main_v16) (ix2 r c) = logit X K r c - (l : EReal) := fun c => (n r c).trans (by rw [hl])
  have ea : (along fun c => logit X K r c - (l : EReal)) = fun c => cell X K r c - (l : EReal) := by
    funext c
    unfold cell along
    split
    · rfl
    · rw [EReal.bot_sub]
  have t : upto ops V 25 (Proc.devRef .tc main_v17) (ix1 r) = (μ r : EReal) - (l : EReal) := by
    refine (congrFun (congrFun (upto_add V 23 2) _) _).trans ((max1 _ _).trans ?_)
    rw [← hμ, ← top_sub, ← ea, top_along]
    exact congrArg _ (funext fun c => n' c)
  have a25 : upto ops V 25 (Proc.devRef .tc main_v16) = upto ops V 23 (Proc.devRef .tc main_v16) :=
    (congrFun (upto_add V 23 2) _).trans (kept4 _)
  have e : ∀ c, upto ops V 32 (Proc.devRef .tc main_v23) (ix2 r c) = Ideal.exp (logit X K r c - (μ r : EReal)) := fun c => by
    refine (congrFun (congrFun (upto_add V 25 7) _) _).trans ((exp1 _ _ _ a25 _ rfl).trans ?_)
    rw [n' c, ofBits_bot, ← sub_sub_cancel_real (logit X K r c) (μ r) l, ← t]
    exact congrArg (fun z => Ideal.exp (logit X K r c - (l : EReal) - z)) (bot_sup_eq _)
  have g : upto ops V 34 (Proc.devRef .tc main_v24) (ix1 r) = (σ : EReal) := by
    refine (congrFun (congrFun (upto_add V 32 2) _) _).trans ((sum1 _ _).trans ?_)
    rw [← eσ, mass_along, hμ]
    exact congrArg (fun f : Fin 1000000 → EReal => ∑ k, f k) (funext fun c => e c)
  have e34 : upto ops V 34 (Proc.devRef .tc main_v23) = upto ops V 32 (Proc.devRef .tc main_v23) :=
    (congrFun (upto_add V 32 2) _).trans (kept5 _)
  refine (congrFun (prob_kept V) _).trans ((congrFun (congrFun (upto_add V 34 3) _) _).trans ((div1 _ _).trans ?_))
  have hlt : logit X K r c ≠ ⊤ := fun h => EReal.coe_ne_top (μ r) (top_le_iff.mp (by
    rw [← h, ← hμ, ← along_lt (logit X K r) c]; exact le_top _ c.isLt))
  unfold lse
  rw [hμ, eσ, exp_quot _ _ _ hσ hlt, ← e c, ← g, ← e34]
  rfl

include hX hK hμ in
/-- The reference's actions lead their rows' scores. -/
theorem acts (r : Fin 32) :
    ∃ k : ℕ, after ops V (Proc.devRef .tc main_v37) (ix1 r) = BitVec.ofNat 32 k ∧ Lead (score X K r) 1000000 k := by
  obtain ⟨k, e, h⟩ := chosen (upto ops V 315) _ rfl (ix1 r)
  refine ⟨k, (congrFun (congrFun (upto_add V 315 5) _) _).trans e, ?_⟩
  convert h using 1
  funext c
  by_cases hc : c < 1000000
  · refine Eq.trans ?_ (along_lt _ (⟨c, hc⟩ : Fin 1000000)).symm
    refine Eq.symm ((congrFun (congrFun (upto_add V 292 23) _) _).trans
      ((scored (upto ops V 292) (ix2 r ⟨c, hc⟩) _ rfl _ (words V _) (bounds V).1 (bounds V).2).trans ?_))
    rw [norm_kept, norms V X K hX hK μ hμ r ⟨c, hc⟩]
    unfold score
    rw [show cell X K r c = logit X K r ⟨c, hc⟩ from along_lt _ (⟨c, hc⟩ : Fin 1000000)]
    rfl
  · rw [score_ge _ _ _ _ (by omega)]
    exact (along_ge _ _ (by omega)).symm
end

end Cert.Proof.Ref

end
-- ==== Proof.Agreement.lean ====
/- The two programs' results are equal wherever every row has an allowed action and a finite top among its allowed logits. -/
module

public import proofs.«01_k».proof.Defs
public import proofs.«01_k».proof.Proof.Gen.Pre_some_action_in_every_row
public import proofs.«01_k».proof.Proof.KernelRun
public import proofs.«01_k».proof.Proof.KernelValue
public import proofs.«01_k».proof.Proof.RefValue

@[expose] public section

noncomputable section

namespace Cert.Proof

open Idealize.ShloMosaic Idealize.ShloMosaic.TcCoe Idealize.SL.Sem Cert.Proof.Rows

theorem both_bits (a b : Bool) (h : BitVec.ofBool a &&& BitVec.ofBool b = 1#1) : a = true ∧ b = true := by revert a b; decide

/-- Two comparisons joined, at an entry. -/
theorem between (w w' : BitVec 32) (y : Cert.Pre_some_action_in_every_row.S32.Idx → EReal) (h h') (i : Cert.Pre_some_action_in_every_row.S32.Idx) :
    andi (cmpf (F := Ideal) (φ := .f32) .ogt y (broadcastInDim Cert.Pre_some_action_in_every_row.S32 ![] h (constant (F := Ideal) Cert.Pre_some_action_in_every_row.S_ .f32 w)))
      (cmpf (F := Ideal) (φ := .f32) .olt y (broadcastInDim Cert.Pre_some_action_in_every_row.S32 ![] h' (constant (F := Ideal) Cert.Pre_some_action_in_every_row.S_ .f32 w'))) i =
    BitVec.ofBool (decide (Ideal.ofBits .f32 w < y i)) &&& BitVec.ofBool (decide (y i < Ideal.ofBits .f32 w')) := rfl

/-- The precondition, read: every row's top is a real number. -/
theorem tops_real [Cert.Pre_some_action_in_every_row.Facts] (X : Wide.Idx → EReal) (K : Wide.Idx → BitVec 1)
    (h : Cert.Pre_some_action_in_every_row.fn (F := Ideal) X K = fun _ => 1#1) : ∃ μ : Fin 32 → ℝ, ∀ r, top (cell X K r) 1000000 = μ r := by
  have key : ∀ r, ∃ μ : ℝ, top (cell X K r) 1000000 = μ := fun r => by
    have hr := congrFun h (ix1 r)
    set y : Cert.Pre_some_action_in_every_row.S32.Idx → EReal := Host.reduce (FloatOps.maximumf (F := Ideal) (φ := .f32))
      (select K X (broadcastInDim Cert.Pre_some_action_in_every_row.S32x1000000 ![] Cert.Pre_some_action_in_every_row.Facts.bcast_S_S32x1000000
        (constant (F := Ideal) Cert.Pre_some_action_in_every_row.S_ .f32 0xFF800000#32)))
      (constant (F := Ideal) Cert.Pre_some_action_in_every_row.S_ .f32 0xFF800000#32)
      Cert.Pre_some_action_in_every_row.Facts.reducesTo_S32x1000000_S32_d1 Cert.Pre_some_action_in_every_row.Facts.h_S_ with hy
    have e : y (ix1 r) = top (cell X K r) 1000000 := by
      rw [hy]
      refine (Ref.host_max (m := 32) (n := 1000000) _ (constant (F := Ideal) Cert.Pre_some_action_in_every_row.S_ .f32 0xFF800000#32) (fun _ => ofBits_bot) _ _ _).trans ?_
      refine Eq.trans ?_ (top_along _).symm
      refine congrArg (fun f : Fin 1000000 → EReal => Finset.univ.sup f) (funext fun c => ?_)
      show Scalar.select (K (ix2 r c)) (X (ix2 r c)) (Ideal.ofBits .f32 0xFF800000#32) = _
      rw [ofBits_bot]; rfl
    have hr' := (between _ _ y Cert.Pre_some_action_in_every_row.Facts.bcast_S_S32 Cert.Pre_some_action_in_every_row.Facts.bcast_S_S32 (ix1 r)).symm.trans hr
    obtain ⟨h1, h2⟩ := both_bits _ _ hr'
    rw [decide_eq_true_iff, e] at h1 h2
    rw [ofBits_bot] at h1
    rw [ofBits_top] at h2
    exact ⟨_, (EReal.coe_toReal h2.ne h1.ne').symm⟩
  exact ⟨fun r => (key r).choose, fun r => (key r).choose_spec⟩

/-- No stretch of a row reaches past a real top. -/
theorem tops_ne (X : Wide.Idx → EReal) (K : Wide.Idx → BitVec 1) (μ : Fin 32 → ℝ) (hμ : ∀ r, top (cell X K r) 1000000 = μ r) (r : Fin 32) (n : ℕ) :
    top (cell X K r) n ≠ ⊤ := fun h => by
  have h1 : top (cell X K r) (max n 1000000) = μ r := (top_pad _ (le_max_right _ _) fun c hc => along_ge _ _ hc).trans (hμ r)
  have h2 := top_mono (cell X K r) (le_max_left n 1000000)
  rw [h, h1] at h2
  exact EReal.coe_ne_top _ (top_le_iff.mp h2)

theorem agreement [Cert.Pre_some_action_in_every_row.Facts] :
    algebraic_KernelIdeal_ReferenceIdeal_pre_some_action_in_every_row (hKernelIdeal := Cert.KernelIdeal.Gen.facts) (hReferenceIdeal := Cert.ReferenceIdeal.Gen.facts) := by
  intro m g m' g' hpre hargs
  refine ⟨fun c => Cert.KernelIdeal.Gen.V5 m (Pass.outs m) c Cert.KernelIdeal.main_v3_0, fun c => Cert.KernelIdeal.Gen.V5 m (Pass.outs m) c Cert.KernelIdeal.main_v4, ?_, ?_⟩
  · exact (θ_run _ _ _).mono (fun r h => h.1) (Pass.run_main m g)
  · refine (θ_run _ _ _).mono (fun r h c => ?_) (Ref.run m' g')
    set X : Wide.Idx → EReal := m ((c.tc : Thread Cert.KernelIdeal.nD Cert.KernelIdeal.τ).loc Cert.KernelIdeal.main_arg0) with hX
    set K : Wide.Idx → BitVec 1 := m ((c.tc : Thread Cert.KernelIdeal.nD Cert.KernelIdeal.τ).loc Cert.KernelIdeal.main_arg1) with hK
    obtain ⟨μ, hμ⟩ := tops_real X K (hpre c)
    have ht := tops_ne X K μ hμ
    have h0 := (hargs c).1
    have h1 := (hargs c).2
    refine ⟨(h c _).trans ?_, (h c _).trans ?_, (h c _).trans (Ref.arg0_kept _), (h c _).trans (Ref.arg1_kept _)⟩
    · refine Eq.trans ?_ (Pass.probs_final m c X K rfl rfl ht).symm
      funext j
      have ej : j = ix2 (j 0) (j 1) := funext fun a => by match a with | ⟨0, _⟩ => rfl | ⟨1, _⟩ => rfl
      rw [ej]
      exact Ref.probs _ X K h0 h1 μ hμ (j 0) (j 1)
    · funext j
      have ej : j = ix1 (j 0) := funext fun a => by match a with | ⟨0, _⟩ => rfl
      rw [ej]
      obtain ⟨k, ek, hk⟩ := Ref.acts (StableHlo.launchContents m' c) X K h0 h1 μ hμ (j 0)
      obtain ⟨i, ei, hi⟩ := Pass.acts_final m c X K rfl rfl ht (j 0)
      have e := lead_unique hk hi
      subst e
      exact ek.trans ei.symm

end Cert.Proof

end
-- ==== Proof.lean ====
/-
  The certificate: the frames of the kernel (as compiled and idealized) and of the reference, the named literal's rule, and
  the value claim.
-/
module

public import proofs.«01_k».proof.Defs
public import proofs.«01_k».proof.Proof.Gen.Pre_some_action_in_every_row
public import proofs.«01_k».proof.Proof.KernelRun
public import proofs.«01_k».proof.Proof.BitsFrame
public import proofs.«01_k».proof.Proof.RefRun
public import proofs.«01_k».proof.Proof.Agreement

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_some_action_in_every_row.Gen.facts,
    fun m g _ => Compiled.frame m g,
    fun m g _ => Pass.frame_main m g,
    fun m g _ => Pass.frame_main m g,
    fun m g _ => Ref.frame m g,
    fun m g _ => Ref.frame m g,
    IdealRules.named_const.statement Cert.KernelIdeal.κ "largest" .f32 0x7F7FFFFF#32 ⊤ rfl,
    agreement⟩

end Cert.Proof

end
